-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_and_ones [hPre_finite_and_ones : Cert.Pre_finite_and_ones.Facts] (m : (ℓ : Loc Cert.AttnIdeal.nD Cert.AttnIdeal.τ Cert.AttnIdeal.sig) → Buf (Elt Ideal) ℓ) : Prop :=
  ∀ c : Dev Cert.AttnIdeal.nD,
    (Cert.Pre_finite_and_ones.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_and_ones [hPre_finite_and_ones : Cert.Pre_finite_and_ones.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_and_ones.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixPost (m : (ℓ : Loc Cert.MixPost.nD Cert.MixPost.τ Cert.MixPost.sig) → Buf (Elt Bits) ℓ) : Prop :=
  True

def Pre_MixPostIdeal (m : (ℓ : Loc Cert.MixPostIdeal.nD Cert.MixPostIdeal.τ Cert.MixPostIdeal.sig) → Buf (Elt Ideal) ℓ) : Prop :=
  True

def Pre_MixPostRefIdeal (m : (ℓ : Loc Cert.MixPostRefIdeal.nD Cert.MixPostRefIdeal.τ Cert.MixPostRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_packed_rope [hPre_packed_rope : Cert.Pre_packed_rope.Facts] (m : (ℓ : Loc Cert.PrepIdeal.nD Cert.PrepIdeal.τ Cert.PrepIdeal.sig) → Buf (Elt Ideal) ℓ) : Prop :=
  ∀ c : Dev Cert.PrepIdeal.nD,
    (Cert.Pre_packed_rope.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_packed_rope [hPre_packed_rope : Cert.Pre_packed_rope.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_packed_rope.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_and_ones [hAttnIdeal : Cert.AttnIdeal.Facts] [hPre_finite_and_ones : Cert.Pre_finite_and_ones.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_and_ones m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_and_ones [hAttnRefIdeal : Cert.AttnRefIdeal.Facts] [hPre_finite_and_ones : Cert.Pre_finite_and_ones.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_and_ones m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_MixPost [hMixPost : Cert.MixPost.Facts] : Prop :=
  ∀ (m : (ℓ : Loc Cert.MixPost.nD Cert.MixPost.τ Cert.MixPost.sig) → Buf (Elt Bits) ℓ) (g : Dev Cert.MixPost.nD → PrngReg), Pre_MixPost m →
    θ_run (Cert.MixPost.defs (F := Bits)) (onTc (τ := Cert.MixPost.τ) (Cert.MixPost.main (F := Bits))) ⟨m, fun _ => 0, g⟩ (fun r => (∀ c : Dev Cert.MixPost.nD,
      r.2.mem ((c.tc : Thread Cert.MixPost.nD Cert.MixPost.τ).loc Cert.MixPost.main_arg0) = m ((c.tc : Thread Cert.MixPost.nD Cert.MixPost.τ).loc Cert.MixPost.main_arg0)
      ∧ r.2.mem ((c.tc : Thread Cert.MixPost.nD Cert.MixPost.τ).loc Cert.MixPost.main_arg1) = m ((c.tc : Thread Cert.MixPost.nD Cert.MixPost.τ).loc Cert.MixPost.main_arg1)
      ∧ r.2.mem ((c.tc : Thread Cert.MixPost.nD Cert.MixPost.τ).loc Cert.MixPost.main_arg2) = m ((c.tc : Thread Cert.MixPost.nD Cert.MixPost.τ).loc Cert.MixPost.main_arg2)
      ∧ r.2.mem ((c.tc : Thread Cert.MixPost.nD Cert.MixPost.τ).loc Cert.MixPost.main_arg3) = m ((c.tc : Thread Cert.MixPost.nD Cert.MixPost.τ).loc Cert.MixPost.main_arg3)
      ∧ r.2.mem ((c.tc : Thread Cert.MixPost.nD Cert.MixPost.τ).loc Cert.MixPost.main_arg4) = m ((c.tc : Thread Cert.MixPost.nD Cert.MixPost.τ).loc Cert.MixPost.main_arg4)
      ∧ r.2.mem ((c.tc : Thread Cert.MixPost.nD Cert.MixPost.τ).loc Cert.MixPost.main_arg5) = m ((c.tc : Thread Cert.MixPost.nD Cert.MixPost.τ).loc Cert.MixPost.main_arg5)
      ∧ r.2.mem ((c.tc : Thread Cert.MixPost.nD Cert.MixPost.τ).loc Cert.MixPost.main_arg6) = m ((c.tc : Thread Cert.MixPost.nD Cert.MixPost.τ).loc Cert.MixPost.main_arg6)
      ∧ r.2.mem ((c.tc : Thread Cert.MixPost.nD Cert.MixPost.τ).loc Cert.MixPost.main_arg7) = m ((c.tc : Thread Cert.MixPost.nD Cert.MixPost.τ).loc Cert.MixPost.main_arg7)
      ∧ r.2.mem ((c.tc : Thread Cert.MixPost.nD Cert.MixPost.τ).loc Cert.MixPost.main_arg8) = m ((c.tc : Thread Cert.MixPost.nD Cert.MixPost.τ).loc Cert.MixPost.main_arg8)
      ∧ r.2.mem ((c.tc : Thread Cert.MixPost.nD Cert.MixPost.τ).loc Cert.MixPost.main_arg9) = m ((c.tc : Thread Cert.MixPost.nD Cert.MixPost.τ).loc Cert.MixPost.main_arg9)
      ∧ r.2.mem ((c.tc : Thread Cert.MixPost.nD Cert.MixPost.τ).loc Cert.MixPost.main_arg10) = m ((c.tc : Thread Cert.MixPost.nD Cert.MixPost.τ).loc Cert.MixPost.main_arg10)
      ∧ r.2.mem ((c.tc : Thread Cert.MixPost.nD Cert.MixPost.τ).loc Cert.MixPost.main_arg11) = m ((c.tc : Thread Cert.MixPost.nD Cert.MixPost.τ).loc Cert.MixPost.main_arg11)
      ∧ r.2.mem ((c.tc : Thread Cert.MixPost.nD Cert.MixPost.τ).loc Cert.MixPost.main_arg12) = m ((c.tc : Thread Cert.MixPost.nD Cert.MixPost.τ).loc Cert.MixPost.main_arg12)
      ∧ r.2.mem ((c.tc : Thread Cert.MixPost.nD Cert.MixPost.τ).loc Cert.MixPost.main_arg13) = m ((c.tc : Thread Cert.MixPost.nD Cert.MixPost.τ).loc Cert.MixPost.main_arg13)
      ∧ r.2.mem ((c.tc : Thread Cert.MixPost.nD Cert.MixPost.τ).loc Cert.MixPost.main_arg14) = m ((c.tc : Thread Cert.MixPost.nD Cert.MixPost.τ).loc Cert.MixPost.main_arg14)
      ∧ r.2.mem ((c.tc : Thread Cert.MixPost.nD Cert.MixPost.τ).loc Cert.MixPost.main_arg15) = m ((c.tc : Thread Cert.MixPost.nD Cert.MixPost.τ).loc Cert.MixPost.main_arg15)
      ∧ r.2.mem ((c.tc : Thread Cert.MixPost.nD Cert.MixPost.τ).loc Cert.MixPost.main_arg16) = m ((c.tc : Thread Cert.MixPost.nD Cert.MixPost.τ).loc Cert.MixPost.main_arg16))
      ∧ r.2.sem = fun _ => 0)

def quiescent_MixPostIdeal [hMixPostIdeal : Cert.MixPostIdeal.Facts] : Prop :=
  ∀ (m : (ℓ : Loc Cert.MixPostIdeal.nD Cert.MixPostIdeal.τ Cert.MixPostIdeal.sig) → Buf (Elt Ideal) ℓ) (g : Dev Cert.MixPostIdeal.nD → PrngReg), Pre_MixPostIdeal m →
    θ_run (Cert.MixPostIdeal.defs (F := Ideal)) (onTc (τ := Cert.MixPostIdeal.τ) (Cert.MixPostIdeal.main (F := Ideal))) ⟨m, fun _ => 0, g⟩ (fun r => (∀ c : Dev Cert.MixPostIdeal.nD,
      r.2.mem ((c.tc : Thread Cert.MixPostIdeal.nD Cert.MixPostIdeal.τ).loc Cert.MixPostIdeal.main_arg0) = m ((c.tc : Thread Cert.MixPostIdeal.nD Cert.MixPostIdeal.τ).loc Cert.MixPostIdeal.main_arg0)
      ∧ r.2.mem ((c.tc : Thread Cert.MixPostIdeal.nD Cert.MixPostIdeal.τ).loc Cert.MixPostIdeal.main_arg1) = m ((c.tc : Thread Cert.MixPostIdeal.nD Cert.MixPostIdeal.τ).loc Cert.MixPostIdeal.main_arg1)
      ∧ r.2.mem ((c.tc : Thread Cert.MixPostIdeal.nD Cert.MixPostIdeal.τ).loc Cert.MixPostIdeal.main_arg2) = m ((c.tc : Thread Cert.MixPostIdeal.nD Cert.MixPostIdeal.τ).loc Cert.MixPostIdeal.main_arg2)
      ∧ r.2.mem ((c.tc : Thread Cert.MixPostIdeal.nD Cert.MixPostIdeal.τ).loc Cert.MixPostIdeal.main_arg3) = m ((c.tc : Thread Cert.MixPostIdeal.nD Cert.MixPostIdeal.τ).loc Cert.MixPostIdeal.main_arg3)
      ∧ r.2.mem ((c.tc : Thread Cert.MixPostIdeal.nD Cert.MixPostIdeal.τ).loc Cert.MixPostIdeal.main_arg4) = m ((c.tc : Thread Cert.MixPostIdeal.nD Cert.MixPostIdeal.τ).loc Cert.MixPostIdeal.main_arg4)
      ∧ r.2.mem ((c.tc : Thread Cert.MixPostIdeal.nD Cert.MixPostIdeal.τ).loc Cert.MixPostIdeal.main_arg5) = m ((c.tc : Thread Cert.MixPostIdeal.nD Cert.MixPostIdeal.τ).loc Cert.MixPostIdeal.main_arg5)
      ∧ r.2.mem ((c.tc : Thread Cert.MixPostIdeal.nD Cert.MixPostIdeal.τ).loc Cert.MixPostIdeal.main_arg6) = m ((c.tc : Thread Cert.MixPostIdeal.nD Cert.MixPostIdeal.τ).loc Cert.MixPostIdeal.main_arg6)
      ∧ r.2.mem ((c.tc : Thread Cert.MixPostIdeal.nD Cert.MixPostIdeal.τ).loc Cert.MixPostIdeal.main_arg7) = m ((c.tc : Thread Cert.MixPostIdeal.nD Cert.MixPostIdeal.τ).loc Cert.MixPostIdeal.main_arg7)
      ∧ r.2.mem ((c.tc : Thread Cert.MixPostIdeal.nD Cert.MixPostIdeal.τ).loc Cert.MixPostIdeal.main_arg8) = m ((c.tc : Thread Cert.MixPostIdeal.nD Cert.MixPostIdeal.τ).loc Cert.MixPostIdeal.main_arg8)
      ∧ r.2.mem ((c.tc : Thread Cert.MixPostIdeal.nD Cert.MixPostIdeal.τ).loc Cert.MixPostIdeal.main_arg9) = m ((c.tc : Thread Cert.MixPostIdeal.nD Cert.MixPostIdeal.τ).loc Cert.MixPostIdeal.main_arg9)
      ∧ r.2.mem ((c.tc : Thread Cert.MixPostIdeal.nD Cert.MixPostIdeal.τ).loc Cert.MixPostIdeal.main_arg10) = m ((c.tc : Thread Cert.MixPostIdeal.nD Cert.MixPostIdeal.τ).loc Cert.MixPostIdeal.main_arg10)
      ∧ r.2.mem ((c.tc : Thread Cert.MixPostIdeal.nD Cert.MixPostIdeal.τ).loc Cert.MixPostIdeal.main_arg11) = m ((c.tc : Thread Cert.MixPostIdeal.nD Cert.MixPostIdeal.τ).loc Cert.MixPostIdeal.main_arg11)
      ∧ r.2.mem ((c.tc : Thread Cert.MixPostIdeal.nD Cert.MixPostIdeal.τ).loc Cert.MixPostIdeal.main_arg12) = m ((c.tc : Thread Cert.MixPostIdeal.nD Cert.MixPostIdeal.τ).loc Cert.MixPostIdeal.main_arg12)
      ∧ r.2.mem ((c.tc : Thread Cert.MixPostIdeal.nD Cert.MixPostIdeal.τ).loc Cert.MixPostIdeal.main_arg13) = m ((c.tc : Thread Cert.MixPostIdeal.nD Cert.MixPostIdeal.τ).loc Cert.MixPostIdeal.main_arg13)
      ∧ r.2.mem ((c.tc : Thread Cert.MixPostIdeal.nD Cert.MixPostIdeal.τ).loc Cert.MixPostIdeal.main_arg14) = m ((c.tc : Thread Cert.MixPostIdeal.nD Cert.MixPostIdeal.τ).loc Cert.MixPostIdeal.main_arg14)
      ∧ r.2.mem ((c.tc : Thread Cert.MixPostIdeal.nD Cert.MixPostIdeal.τ).loc Cert.MixPostIdeal.main_arg15) = m ((c.tc : Thread Cert.MixPostIdeal.nD Cert.MixPostIdeal.τ).loc Cert.MixPostIdeal.main_arg15)
      ∧ r.2.mem ((c.tc : Thread Cert.MixPostIdeal.nD Cert.MixPostIdeal.τ).loc Cert.MixPostIdeal.main_arg16) = m ((c.tc : Thread Cert.MixPostIdeal.nD Cert.MixPostIdeal.τ).loc Cert.MixPostIdeal.main_arg16))
      ∧ r.2.sem = fun _ => 0)

def quiescent_MixPostRefIdeal [hMixPostRefIdeal : Cert.MixPostRefIdeal.Facts] : Prop :=
  ∀ (m : (ℓ : Loc Cert.MixPostRefIdeal.nD Cert.MixPostRefIdeal.τ Cert.MixPostRefIdeal.sig) → Buf (Elt Ideal) ℓ) (g : Dev Cert.MixPostRefIdeal.nD → PrngReg), Pre_MixPostRefIdeal m →
    θ_run (Cert.MixPostRefIdeal.defs (F := Ideal)) (onTc (τ := Cert.MixPostRefIdeal.τ) (Cert.MixPostRefIdeal.main (F := Ideal))) ⟨m, fun _ => 0, g⟩ (fun r => (∀ c : Dev Cert.MixPostRefIdeal.nD,
      r.2.mem ((c.tc : Thread Cert.MixPostRefIdeal.nD Cert.MixPostRefIdeal.τ).loc Cert.MixPostRefIdeal.main_arg0) = m ((c.tc : Thread Cert.MixPostRefIdeal.nD Cert.MixPostRefIdeal.τ).loc Cert.MixPostRefIdeal.main_arg0)
      ∧ r.2.mem ((c.tc : Thread Cert.MixPostRefIdeal.nD Cert.MixPostRefIdeal.τ).loc Cert.MixPostRefIdeal.main_arg1) = m ((c.tc : Thread Cert.MixPostRefIdeal.nD Cert.MixPostRefIdeal.τ).loc Cert.MixPostRefIdeal.main_arg1)
      ∧ r.2.mem ((c.tc : Thread Cert.MixPostRefIdeal.nD Cert.MixPostRefIdeal.τ).loc Cert.MixPostRefIdeal.main_arg2) = m ((c.tc : Thread Cert.MixPostRefIdeal.nD Cert.MixPostRefIdeal.τ).loc Cert.MixPostRefIdeal.main_arg2)
      ∧ r.2.mem ((c.tc : Thread Cert.MixPostRefIdeal.nD Cert.MixPostRefIdeal.τ).loc Cert.MixPostRefIdeal.main_arg3) = m ((c.tc : Thread Cert.MixPostRefIdeal.nD Cert.MixPostRefIdeal.τ).loc Cert.MixPostRefIdeal.main_arg3)
      ∧ r.2.mem ((c.tc : Thread Cert.MixPostRefIdeal.nD Cert.MixPostRefIdeal.τ).loc Cert.MixPostRefIdeal.main_arg4) = m ((c.tc : Thread Cert.MixPostRefIdeal.nD Cert.MixPostRefIdeal.τ).loc Cert.MixPostRefIdeal.main_arg4)
      ∧ r.2.mem ((c.tc : Thread Cert.MixPostRefIdeal.nD Cert.MixPostRefIdeal.τ).loc Cert.MixPostRefIdeal.main_arg5) = m ((c.tc : Thread Cert.MixPostRefIdeal.nD Cert.MixPostRefIdeal.τ).loc Cert.MixPostRefIdeal.main_arg5)
      ∧ r.2.mem ((c.tc : Thread Cert.MixPostRefIdeal.nD Cert.MixPostRefIdeal.τ).loc Cert.MixPostRefIdeal.main_arg6) = m ((c.tc : Thread Cert.MixPostRefIdeal.nD Cert.MixPostRefIdeal.τ).loc Cert.MixPostRefIdeal.main_arg6)
      ∧ r.2.mem ((c.tc : Thread Cert.MixPostRefIdeal.nD Cert.MixPostRefIdeal.τ).loc Cert.MixPostRefIdeal.main_arg7) = m ((c.tc : Thread Cert.MixPostRefIdeal.nD Cert.MixPostRefIdeal.τ).loc Cert.MixPostRefIdeal.main_arg7)
      ∧ r.2.mem ((c.tc : Thread Cert.MixPostRefIdeal.nD Cert.MixPostRefIdeal.τ).loc Cert.MixPostRefIdeal.main_arg8) = m ((c.tc : Thread Cert.MixPostRefIdeal.nD Cert.MixPostRefIdeal.τ).loc Cert.MixPostRefIdeal.main_arg8)
      ∧ r.2.mem ((c.tc : Thread Cert.MixPostRefIdeal.nD Cert.MixPostRefIdeal.τ).loc Cert.MixPostRefIdeal.main_arg9) = m ((c.tc : Thread Cert.MixPostRefIdeal.nD Cert.MixPostRefIdeal.τ).loc Cert.MixPostRefIdeal.main_arg9)
      ∧ r.2.mem ((c.tc : Thread Cert.MixPostRefIdeal.nD Cert.MixPostRefIdeal.τ).loc Cert.MixPostRefIdeal.main_arg10) = m ((c.tc : Thread Cert.MixPostRefIdeal.nD Cert.MixPostRefIdeal.τ).loc Cert.MixPostRefIdeal.main_arg10)
      ∧ r.2.mem ((c.tc : Thread Cert.MixPostRefIdeal.nD Cert.MixPostRefIdeal.τ).loc Cert.MixPostRefIdeal.main_arg11) = m ((c.tc : Thread Cert.MixPostRefIdeal.nD Cert.MixPostRefIdeal.τ).loc Cert.MixPostRefIdeal.main_arg11)
      ∧ r.2.mem ((c.tc : Thread Cert.MixPostRefIdeal.nD Cert.MixPostRefIdeal.τ).loc Cert.MixPostRefIdeal.main_arg12) = m ((c.tc : Thread Cert.MixPostRefIdeal.nD Cert.MixPostRefIdeal.τ).loc Cert.MixPostRefIdeal.main_arg12)
      ∧ r.2.mem ((c.tc : Thread Cert.MixPostRefIdeal.nD Cert.MixPostRefIdeal.τ).loc Cert.MixPostRefIdeal.main_arg13) = m ((c.tc : Thread Cert.MixPostRefIdeal.nD Cert.MixPostRefIdeal.τ).loc Cert.MixPostRefIdeal.main_arg13)
      ∧ r.2.mem ((c.tc : Thread Cert.MixPostRefIdeal.nD Cert.MixPostRefIdeal.τ).loc Cert.MixPostRefIdeal.main_arg14) = m ((c.tc : Thread Cert.MixPostRefIdeal.nD Cert.MixPostRefIdeal.τ).loc Cert.MixPostRefIdeal.main_arg14)
      ∧ r.2.mem ((c.tc : Thread Cert.MixPostRefIdeal.nD Cert.MixPostRefIdeal.τ).loc Cert.MixPostRefIdeal.main_arg15) = m ((c.tc : Thread Cert.MixPostRefIdeal.nD Cert.MixPostRefIdeal.τ).loc Cert.MixPostRefIdeal.main_arg15)
      ∧ r.2.mem ((c.tc : Thread Cert.MixPostRefIdeal.nD Cert.MixPostRefIdeal.τ).loc Cert.MixPostRefIdeal.main_arg16) = m ((c.tc : Thread Cert.MixPostRefIdeal.nD Cert.MixPostRefIdeal.τ).loc Cert.MixPostRefIdeal.main_arg16))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepIdeal_pre_packed_rope [hPrepIdeal : Cert.PrepIdeal.Facts] [hPre_packed_rope : Cert.Pre_packed_rope.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_packed_rope m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_PrepRefIdeal_pre_packed_rope [hPrepRefIdeal : Cert.PrepRefIdeal.Facts] [hPre_packed_rope : Cert.Pre_packed_rope.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_packed_rope m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def preserves_Attn_AttnIdeal : Prop :=
  True

def algebraic_AttnIdeal_AttnRefIdeal_pre_finite_and_ones [hAttnIdeal : Cert.AttnIdeal.Facts] [hAttnRefIdeal : Cert.AttnRefIdeal.Facts] [hPre_finite_and_ones : Cert.Pre_finite_and_ones.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_and_ones m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v19) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v40) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_MixPost_MixPostIdeal : Prop :=
  True

def algebraic_MixPostIdeal_MixPostRefIdeal [hMixPostIdeal : Cert.MixPostIdeal.Facts] [hMixPostRefIdeal : Cert.MixPostRefIdeal.Facts] : Prop :=
  ∀ (m : (ℓ : Loc Cert.MixPostIdeal.nD Cert.MixPostIdeal.τ Cert.MixPostIdeal.sig) → Buf (Elt Ideal) ℓ) (g : Dev Cert.MixPostIdeal.nD → PrngReg)
    (m' : (ℓ : Loc Cert.MixPostRefIdeal.nD Cert.MixPostRefIdeal.τ Cert.MixPostRefIdeal.sig) → Buf (Elt Ideal) ℓ) (g' : Dev Cert.MixPostRefIdeal.nD → PrngReg), Pre_MixPostIdeal m →
    (∀ c : Dev Cert.MixPostIdeal.nD,
      m' ((c.tc : Thread Cert.MixPostRefIdeal.nD Cert.MixPostRefIdeal.τ).loc Cert.MixPostRefIdeal.main_arg0) = m ((c.tc : Thread Cert.MixPostIdeal.nD Cert.MixPostIdeal.τ).loc Cert.MixPostIdeal.main_arg0)
      ∧ m' ((c.tc : Thread Cert.MixPostRefIdeal.nD Cert.MixPostRefIdeal.τ).loc Cert.MixPostRefIdeal.main_arg1) = m ((c.tc : Thread Cert.MixPostIdeal.nD Cert.MixPostIdeal.τ).loc Cert.MixPostIdeal.main_arg1)
      ∧ m' ((c.tc : Thread Cert.MixPostRefIdeal.nD Cert.MixPostRefIdeal.τ).loc Cert.MixPostRefIdeal.main_arg2) = m ((c.tc : Thread Cert.MixPostIdeal.nD Cert.MixPostIdeal.τ).loc Cert.MixPostIdeal.main_arg2)
      ∧ m' ((c.tc : Thread Cert.MixPostRefIdeal.nD Cert.MixPostRefIdeal.τ).loc Cert.MixPostRefIdeal.main_arg3) = m ((c.tc : Thread Cert.MixPostIdeal.nD Cert.MixPostIdeal.τ).loc Cert.MixPostIdeal.main_arg3)
      ∧ m' ((c.tc : Thread Cert.MixPostRefIdeal.nD Cert.MixPostRefIdeal.τ).loc Cert.MixPostRefIdeal.main_arg4) = m ((c.tc : Thread Cert.MixPostIdeal.nD Cert.MixPostIdeal.τ).loc Cert.MixPostIdeal.main_arg4)
      ∧ m' ((c.tc : Thread Cert.MixPostRefIdeal.nD Cert.MixPostRefIdeal.τ).loc Cert.MixPostRefIdeal.main_arg5) = m ((c.tc : Thread Cert.MixPostIdeal.nD Cert.MixPostIdeal.τ).loc Cert.MixPostIdeal.main_arg5)
      ∧ m' ((c.tc : Thread Cert.MixPostRefIdeal.nD Cert.MixPostRefIdeal.τ).loc Cert.MixPostRefIdeal.main_arg6) = m ((c.tc : Thread Cert.MixPostIdeal.nD Cert.MixPostIdeal.τ).loc Cert.MixPostIdeal.main_arg6)
      ∧ m' ((c.tc : Thread Cert.MixPostRefIdeal.nD Cert.MixPostRefIdeal.τ).loc Cert.MixPostRefIdeal.main_arg7) = m ((c.tc : Thread Cert.MixPostIdeal.nD Cert.MixPostIdeal.τ).loc Cert.MixPostIdeal.main_arg7)
      ∧ m' ((c.tc : Thread Cert.MixPostRefIdeal.nD Cert.MixPostRefIdeal.τ).loc Cert.MixPostRefIdeal.main_arg8) = m ((c.tc : Thread Cert.MixPostIdeal.nD Cert.MixPostIdeal.τ).loc Cert.MixPostIdeal.main_arg8)
      ∧ m' ((c.tc : Thread Cert.MixPostRefIdeal.nD Cert.MixPostRefIdeal.τ).loc Cert.MixPostRefIdeal.main_arg9) = m ((c.tc : Thread Cert.MixPostIdeal.nD Cert.MixPostIdeal.τ).loc Cert.MixPostIdeal.main_arg9)
      ∧ m' ((c.tc : Thread Cert.MixPostRefIdeal.nD Cert.MixPostRefIdeal.τ).loc Cert.MixPostRefIdeal.main_arg10) = m ((c.tc : Thread Cert.MixPostIdeal.nD Cert.MixPostIdeal.τ).loc Cert.MixPostIdeal.main_arg10)
      ∧ m' ((c.tc : Thread Cert.MixPostRefIdeal.nD Cert.MixPostRefIdeal.τ).loc Cert.MixPostRefIdeal.main_arg11) = m ((c.tc : Thread Cert.MixPostIdeal.nD Cert.MixPostIdeal.τ).loc Cert.MixPostIdeal.main_arg11)
      ∧ m' ((c.tc : Thread Cert.MixPostRefIdeal.nD Cert.MixPostRefIdeal.τ).loc Cert.MixPostRefIdeal.main_arg12) = m ((c.tc : Thread Cert.MixPostIdeal.nD Cert.MixPostIdeal.τ).loc Cert.MixPostIdeal.main_arg12)
      ∧ m' ((c.tc : Thread Cert.MixPostRefIdeal.nD Cert.MixPostRefIdeal.τ).loc Cert.MixPostRefIdeal.main_arg13) = m ((c.tc : Thread Cert.MixPostIdeal.nD Cert.MixPostIdeal.τ).loc Cert.MixPostIdeal.main_arg13)
      ∧ m' ((c.tc : Thread Cert.MixPostRefIdeal.nD Cert.MixPostRefIdeal.τ).loc Cert.MixPostRefIdeal.main_arg14) = m ((c.tc : Thread Cert.MixPostIdeal.nD Cert.MixPostIdeal.τ).loc Cert.MixPostIdeal.main_arg14)
      ∧ m' ((c.tc : Thread Cert.MixPostRefIdeal.nD Cert.MixPostRefIdeal.τ).loc Cert.MixPostRefIdeal.main_arg15) = m ((c.tc : Thread Cert.MixPostIdeal.nD Cert.MixPostIdeal.τ).loc Cert.MixPostIdeal.main_arg15)
      ∧ m' ((c.tc : Thread Cert.MixPostRefIdeal.nD Cert.MixPostRefIdeal.τ).loc Cert.MixPostRefIdeal.main_arg16) = m ((c.tc : Thread Cert.MixPostIdeal.nD Cert.MixPostIdeal.τ).loc Cert.MixPostIdeal.main_arg16)) →
    ∃ (v0 : (c : Dev Cert.MixPostIdeal.nD) → Buf (Elt Ideal) ((c.tc : Thread Cert.MixPostIdeal.nD Cert.MixPostIdeal.τ).loc Cert.MixPostIdeal.main_v12)),
      θ_run (Cert.MixPostIdeal.defs (F := Ideal)) (onTc (τ := Cert.MixPostIdeal.τ) (Cert.MixPostIdeal.main (F := Ideal))) ⟨m, fun _ => 0, g⟩ (fun r => ∀ c : Dev Cert.MixPostIdeal.nD,
          r.2.mem ((c.tc : Thread Cert.MixPostIdeal.nD Cert.MixPostIdeal.τ).loc Cert.MixPostIdeal.main_v12) = v0 c
          ∧ r.2.mem ((c.tc : Thread Cert.MixPostIdeal.nD Cert.MixPostIdeal.τ).loc Cert.MixPostIdeal.main_arg0) = m ((c.tc : Thread Cert.MixPostIdeal.nD Cert.MixPostIdeal.τ).loc Cert.MixPostIdeal.main_arg0)
          ∧ r.2.mem ((c.tc : Thread Cert.MixPostIdeal.nD Cert.MixPostIdeal.τ).loc Cert.MixPostIdeal.main_arg1) = m ((c.tc : Thread Cert.MixPostIdeal.nD Cert.MixPostIdeal.τ).loc Cert.MixPostIdeal.main_arg1)
          ∧ r.2.mem ((c.tc : Thread Cert.MixPostIdeal.nD Cert.MixPostIdeal.τ).loc Cert.MixPostIdeal.main_arg2) = m ((c.tc : Thread Cert.MixPostIdeal.nD Cert.MixPostIdeal.τ).loc Cert.MixPostIdeal.main_arg2)
          ∧ r.2.mem ((c.tc : Thread Cert.MixPostIdeal.nD Cert.MixPostIdeal.τ).loc Cert.MixPostIdeal.main_arg3) = m ((c.tc : Thread Cert.MixPostIdeal.nD Cert.MixPostIdeal.τ).loc Cert.MixPostIdeal.main_arg3)
          ∧ r.2.mem ((c.tc : Thread Cert.MixPostIdeal.nD Cert.MixPostIdeal.τ).loc Cert.MixPostIdeal.main_arg4) = m ((c.tc : Thread Cert.MixPostIdeal.nD Cert.MixPostIdeal.τ).loc Cert.MixPostIdeal.main_arg4)
          ∧ r.2.mem ((c.tc : Thread Cert.MixPostIdeal.nD Cert.MixPostIdeal.τ).loc Cert.MixPostIdeal.main_arg5) = m ((c.tc : Thread Cert.MixPostIdeal.nD Cert.MixPostIdeal.τ).loc Cert.MixPostIdeal.main_arg5)
          ∧ r.2.mem ((c.tc : Thread Cert.MixPostIdeal.nD Cert.MixPostIdeal.τ).loc Cert.MixPostIdeal.main_arg6) = m ((c.tc : Thread Cert.MixPostIdeal.nD Cert.MixPostIdeal.τ).loc Cert.MixPostIdeal.main_arg6)
          ∧ r.2.mem ((c.tc : Thread Cert.MixPostIdeal.nD Cert.MixPostIdeal.τ).loc Cert.MixPostIdeal.main_arg7) = m ((c.tc : Thread Cert.MixPostIdeal.nD Cert.MixPostIdeal.τ).loc Cert.MixPostIdeal.main_arg7)
          ∧ r.2.mem ((c.tc : Thread Cert.MixPostIdeal.nD Cert.MixPostIdeal.τ).loc Cert.MixPostIdeal.main_arg8) = m ((c.tc : Thread Cert.MixPostIdeal.nD Cert.MixPostIdeal.τ).loc Cert.MixPostIdeal.main_arg8)
          ∧ r.2.mem ((c.tc : Thread Cert.MixPostIdeal.nD Cert.MixPostIdeal.τ).loc Cert.MixPostIdeal.main_arg9) = m ((c.tc : Thread Cert.MixPostIdeal.nD Cert.MixPostIdeal.τ).loc Cert.MixPostIdeal.main_arg9)
          ∧ r.2.mem ((c.tc : Thread Cert.MixPostIdeal.nD Cert.MixPostIdeal.τ).loc Cert.MixPostIdeal.main_arg10) = m ((c.tc : Thread Cert.MixPostIdeal.nD Cert.MixPostIdeal.τ).loc Cert.MixPostIdeal.main_arg10)
          ∧ r.2.mem ((c.tc : Thread Cert.MixPostIdeal.nD Cert.MixPostIdeal.τ).loc Cert.MixPostIdeal.main_arg11) = m ((c.tc : Thread Cert.MixPostIdeal.nD Cert.MixPostIdeal.τ).loc Cert.MixPostIdeal.main_arg11)
          ∧ r.2.mem ((c.tc : Thread Cert.MixPostIdeal.nD Cert.MixPostIdeal.τ).loc Cert.MixPostIdeal.main_arg12) = m ((c.tc : Thread Cert.MixPostIdeal.nD Cert.MixPostIdeal.τ).loc Cert.MixPostIdeal.main_arg12)
          ∧ r.2.mem ((c.tc : Thread Cert.MixPostIdeal.nD Cert.MixPostIdeal.τ).loc Cert.MixPostIdeal.main_arg13) = m ((c.tc : Thread Cert.MixPostIdeal.nD Cert.MixPostIdeal.τ).loc Cert.MixPostIdeal.main_arg13)
          ∧ r.2.mem ((c.tc : Thread Cert.MixPostIdeal.nD Cert.MixPostIdeal.τ).loc Cert.MixPostIdeal.main_arg14) = m ((c.tc : Thread Cert.MixPostIdeal.nD Cert.MixPostIdeal.τ).loc Cert.MixPostIdeal.main_arg14)
          ∧ r.2.mem ((c.tc : Thread Cert.MixPostIdeal.nD Cert.MixPostIdeal.τ).loc Cert.MixPostIdeal.main_arg15) = m ((c.tc : Thread Cert.MixPostIdeal.nD Cert.MixPostIdeal.τ).loc Cert.MixPostIdeal.main_arg15)
          ∧ r.2.mem ((c.tc : Thread Cert.MixPostIdeal.nD Cert.MixPostIdeal.τ).loc Cert.MixPostIdeal.main_arg16) = m ((c.tc : Thread Cert.MixPostIdeal.nD Cert.MixPostIdeal.τ).loc Cert.MixPostIdeal.main_arg16))
      ∧ θ_run (Cert.MixPostRefIdeal.defs (F := Ideal)) (onTc (τ := Cert.MixPostRefIdeal.τ) (Cert.MixPostRefIdeal.main (F := Ideal))) ⟨m', fun _ => 0, g'⟩ (fun r => ∀ c : Dev Cert.MixPostRefIdeal.nD,
          r.2.mem ((c.tc : Thread Cert.MixPostRefIdeal.nD Cert.MixPostRefIdeal.τ).loc Cert.MixPostRefIdeal.main_v75) = v0 c
          ∧ r.2.mem ((c.tc : Thread Cert.MixPostRefIdeal.nD Cert.MixPostRefIdeal.τ).loc Cert.MixPostRefIdeal.main_arg0) = m' ((c.tc : Thread Cert.MixPostRefIdeal.nD Cert.MixPostRefIdeal.τ).loc Cert.MixPostRefIdeal.main_arg0)
          ∧ r.2.mem ((c.tc : Thread Cert.MixPostRefIdeal.nD Cert.MixPostRefIdeal.τ).loc Cert.MixPostRefIdeal.main_arg1) = m' ((c.tc : Thread Cert.MixPostRefIdeal.nD Cert.MixPostRefIdeal.τ).loc Cert.MixPostRefIdeal.main_arg1)
          ∧ r.2.mem ((c.tc : Thread Cert.MixPostRefIdeal.nD Cert.MixPostRefIdeal.τ).loc Cert.MixPostRefIdeal.main_arg2) = m' ((c.tc : Thread Cert.MixPostRefIdeal.nD Cert.MixPostRefIdeal.τ).loc Cert.MixPostRefIdeal.main_arg2)
          ∧ r.2.mem ((c.tc : Thread Cert.MixPostRefIdeal.nD Cert.MixPostRefIdeal.τ).loc Cert.MixPostRefIdeal.main_arg3) = m' ((c.tc : Thread Cert.MixPostRefIdeal.nD Cert.MixPostRefIdeal.τ).loc Cert.MixPostRefIdeal.main_arg3)
          ∧ r.2.mem ((c.tc : Thread Cert.MixPostRefIdeal.nD Cert.MixPostRefIdeal.τ).loc Cert.MixPostRefIdeal.main_arg4) = m' ((c.tc : Thread Cert.MixPostRefIdeal.nD Cert.MixPostRefIdeal.τ).loc Cert.MixPostRefIdeal.main_arg4)
          ∧ r.2.mem ((c.tc : Thread Cert.MixPostRefIdeal.nD Cert.MixPostRefIdeal.τ).loc Cert.MixPostRefIdeal.main_arg5) = m' ((c.tc : Thread Cert.MixPostRefIdeal.nD Cert.MixPostRefIdeal.τ).loc Cert.MixPostRefIdeal.main_arg5)
          ∧ r.2.mem ((c.tc : Thread Cert.MixPostRefIdeal.nD Cert.MixPostRefIdeal.τ).loc Cert.MixPostRefIdeal.main_arg6) = m' ((c.tc : Thread Cert.MixPostRefIdeal.nD Cert.MixPostRefIdeal.τ).loc Cert.MixPostRefIdeal.main_arg6)
          ∧ r.2.mem ((c.tc : Thread Cert.MixPostRefIdeal.nD Cert.MixPostRefIdeal.τ).loc Cert.MixPostRefIdeal.main_arg7) = m' ((c.tc : Thread Cert.MixPostRefIdeal.nD Cert.MixPostRefIdeal.τ).loc Cert.MixPostRefIdeal.main_arg7)
          ∧ r.2.mem ((c.tc : Thread Cert.MixPostRefIdeal.nD Cert.MixPostRefIdeal.τ).loc Cert.MixPostRefIdeal.main_arg8) = m' ((c.tc : Thread Cert.MixPostRefIdeal.nD Cert.MixPostRefIdeal.τ).loc Cert.MixPostRefIdeal.main_arg8)
          ∧ r.2.mem ((c.tc : Thread Cert.MixPostRefIdeal.nD Cert.MixPostRefIdeal.τ).loc Cert.MixPostRefIdeal.main_arg9) = m' ((c.tc : Thread Cert.MixPostRefIdeal.nD Cert.MixPostRefIdeal.τ).loc Cert.MixPostRefIdeal.main_arg9)
          ∧ r.2.mem ((c.tc : Thread Cert.MixPostRefIdeal.nD Cert.MixPostRefIdeal.τ).loc Cert.MixPostRefIdeal.main_arg10) = m' ((c.tc : Thread Cert.MixPostRefIdeal.nD Cert.MixPostRefIdeal.τ).loc Cert.MixPostRefIdeal.main_arg10)
          ∧ r.2.mem ((c.tc : Thread Cert.MixPostRefIdeal.nD Cert.MixPostRefIdeal.τ).loc Cert.MixPostRefIdeal.main_arg11) = m' ((c.tc : Thread Cert.MixPostRefIdeal.nD Cert.MixPostRefIdeal.τ).loc Cert.MixPostRefIdeal.main_arg11)
          ∧ r.2.mem ((c.tc : Thread Cert.MixPostRefIdeal.nD Cert.MixPostRefIdeal.τ).loc Cert.MixPostRefIdeal.main_arg12) = m' ((c.tc : Thread Cert.MixPostRefIdeal.nD Cert.MixPostRefIdeal.τ).loc Cert.MixPostRefIdeal.main_arg12)
          ∧ r.2.mem ((c.tc : Thread Cert.MixPostRefIdeal.nD Cert.MixPostRefIdeal.τ).loc Cert.MixPostRefIdeal.main_arg13) = m' ((c.tc : Thread Cert.MixPostRefIdeal.nD Cert.MixPostRefIdeal.τ).loc Cert.MixPostRefIdeal.main_arg13)
          ∧ r.2.mem ((c.tc : Thread Cert.MixPostRefIdeal.nD Cert.MixPostRefIdeal.τ).loc Cert.MixPostRefIdeal.main_arg14) = m' ((c.tc : Thread Cert.MixPostRefIdeal.nD Cert.MixPostRefIdeal.τ).loc Cert.MixPostRefIdeal.main_arg14)
          ∧ r.2.mem ((c.tc : Thread Cert.MixPostRefIdeal.nD Cert.MixPostRefIdeal.τ).loc Cert.MixPostRefIdeal.main_arg15) = m' ((c.tc : Thread Cert.MixPostRefIdeal.nD Cert.MixPostRefIdeal.τ).loc Cert.MixPostRefIdeal.main_arg15)
          ∧ r.2.mem ((c.tc : Thread Cert.MixPostRefIdeal.nD Cert.MixPostRefIdeal.τ).loc Cert.MixPostRefIdeal.main_arg16) = m' ((c.tc : Thread Cert.MixPostRefIdeal.nD Cert.MixPostRefIdeal.τ).loc Cert.MixPostRefIdeal.main_arg16))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Prep_PrepIdeal : Prop :=
  True

def algebraic_PrepIdeal_PrepRefIdeal_pre_packed_rope [hPrepIdeal : Cert.PrepIdeal.Facts] [hPrepRefIdeal : Cert.PrepRefIdeal.Facts] [hPre_packed_rope : Cert.Pre_packed_rope.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_packed_rope m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v61_0)) (v1 : (c : Dev Cert.PrepIdeal.nD) → Buf (Elt Ideal) ((c.tc : Thread Cert.PrepIdeal.nD Cert.PrepIdeal.τ).loc Cert.PrepIdeal.main_v61_1)) (v2 : (c : Dev Cert.PrepIdeal.nD) → Buf (Elt Ideal) ((c.tc : Thread Cert.PrepIdeal.nD Cert.PrepIdeal.τ).loc Cert.PrepIdeal.main_v61_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v61_0) = v0 c
          ∧ r.2.mem ((c.tc : Thread Cert.PrepIdeal.nD Cert.PrepIdeal.τ).loc Cert.PrepIdeal.main_v61_1) = v1 c
          ∧ r.2.mem ((c.tc : Thread Cert.PrepIdeal.nD Cert.PrepIdeal.τ).loc Cert.PrepIdeal.main_v61_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v122) = v0 c
          ∧ r.2.mem ((c.tc : Thread Cert.PrepRefIdeal.nD Cert.PrepRefIdeal.τ).loc Cert.PrepRefIdeal.main_v124) = v1 c
          ∧ r.2.mem ((c.tc : Thread Cert.PrepRefIdeal.nD Cert.PrepRefIdeal.τ).loc Cert.PrepRefIdeal.main_v126) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMixPost : Cert.MixPost.Facts) (hMixPostIdeal : Cert.MixPostIdeal.Facts) (hMixPostRefIdeal : Cert.MixPostRefIdeal.Facts) (hFinalNorm : Cert.FinalNorm.Facts) (hFinalNormIdeal : Cert.FinalNormIdeal.Facts) (hFinalNormRefIdeal : Cert.FinalNormRefIdeal.Facts) (hPrep : Cert.Prep.Facts) (hPrepIdeal : Cert.PrepIdeal.Facts) (hPrepRefIdeal : Cert.PrepRefIdeal.Facts) (hPre_finite_and_ones : Cert.Pre_finite_and_ones.Facts) (hPre_packed_rope : Cert.Pre_packed_rope.Facts),
    quiescent_Attn (hAttn := hAttn)
    ∧ quiescent_AttnIdeal (hAttnIdeal := hAttnIdeal)
    ∧ quiescent_AttnIdeal_pre_finite_and_ones (hAttnIdeal := hAttnIdeal) (hPre_finite_and_ones := hPre_finite_and_ones)
    ∧ quiescent_AttnRefIdeal (hAttnRefIdeal := hAttnRefIdeal)
    ∧ quiescent_AttnRefIdeal_pre_finite_and_ones (hAttnRefIdeal := hAttnRefIdeal) (hPre_finite_and_ones := hPre_finite_and_ones)
    ∧ quiescent_InProj (hInProj := hInProj)
    ∧ quiescent_InProjIdeal (hInProjIdeal := hInProjIdeal)
    ∧ quiescent_InProjRefIdeal (hInProjRefIdeal := hInProjRefIdeal)
    ∧ quiescent_MixPost (hMixPost := hMixPost)
    ∧ quiescent_MixPostIdeal (hMixPostIdeal := hMixPostIdeal)
    ∧ quiescent_MixPostRefIdeal (hMixPostRefIdeal := hMixPostRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Prep (hPrep := hPrep)
    ∧ quiescent_PrepIdeal (hPrepIdeal := hPrepIdeal)
    ∧ quiescent_PrepIdeal_pre_packed_rope (hPrepIdeal := hPrepIdeal) (hPre_packed_rope := hPre_packed_rope)
    ∧ quiescent_PrepRefIdeal (hPrepRefIdeal := hPrepRefIdeal)
    ∧ quiescent_PrepRefIdeal_pre_packed_rope (hPrepRefIdeal := hPrepRefIdeal) (hPre_packed_rope := hPre_packed_rope)
    ∧ preserves_Attn_AttnIdeal
    ∧ algebraic_AttnIdeal_AttnRefIdeal_pre_finite_and_ones (hAttnIdeal := hAttnIdeal) (hAttnRefIdeal := hAttnRefIdeal) (hPre_finite_and_ones := hPre_finite_and_ones)
    ∧ preserves_InProj_InProjIdeal
    ∧ algebraic_InProjIdeal_InProjRefIdeal (hInProjIdeal := hInProjIdeal) (hInProjRefIdeal := hInProjRefIdeal)
    ∧ preserves_MixPost_MixPostIdeal
    ∧ algebraic_MixPostIdeal_MixPostRefIdeal (hMixPostIdeal := hMixPostIdeal) (hMixPostRefIdeal := hMixPostRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Prep_PrepIdeal
    ∧ algebraic_PrepIdeal_PrepRefIdeal_pre_packed_rope (hPrepIdeal := hPrepIdeal) (hPrepRefIdeal := hPrepRefIdeal) (hPre_packed_rope := hPre_packed_rope)
-- ==== Pre_finite_and_ones.lean ====
abbrev S2x4x8448x128 : Shape := ⟨4, ![2, 4, 8448, 128]⟩
abbrev S2x4x8448x1 : Shape := ⟨4, ![2, 4, 8448, 1]⟩
abbrev S_ : Shape := ⟨0, ![]⟩
abbrev S2x4x8192x128 : Shape := ⟨4, ![2, 4, 8192, 128]⟩

class Facts : Prop where
  slices_S2x4x8448x128_S2x4x8448x1_0_0_0_64 : S2x4x8448x128.Slices ![0, 0, 0, 64] S2x4x8448x1
  bitsLt_bf16_f32 : FTy.bits .bf16 < FTy.bits .f32
  bcast_S_S2x4x8448x1 : S_.BroadcastsInDim S2x4x8448x1 (![] : Fin 0 → Fin S2x4x8448x1.rank)
  reducesTo_S2x4x8448x1_S_d0_1_2_3 : S2x4x8448x1.ReducesTo [0, 1, 2, 3] S_
  h_S_ : 0 < S_.numel
  slices_S2x4x8448x128_S2x4x8192x128_0_0_0_0 : S2x4x8448x128.Slices ![0, 0, 0, 0] S2x4x8192x128
  bcast_S_S2x4x8192x128 : S_.BroadcastsInDim S2x4x8192x128 (![] : Fin 0 → Fin S2x4x8192x128.rank)
  reducesTo_S2x4x8192x128_S_d0_1_2_3 : S2x4x8192x128.ReducesTo [0, 1, 2, 3] S_
  bcast_S_S2x4x8448x128 : S_.BroadcastsInDim S2x4x8448x128 (![] : Fin 0 → Fin S2x4x8448x128.rank)
  reducesTo_S2x4x8448x128_S_d0_1_2_3 : S2x4x8448x128.ReducesTo [0, 1, 2, 3] S_

variable [Facts]

def fn {F : FTy → Type} [FloatOps F] (main_arg0 : FVec F S2x4x8448x128 .bf16) (main_arg1 : FVec F S2x4x8448x128 .bf16) (main_arg2 : FVec F S2x4x8448x128 .bf16) : IVec S_ 1 :=
  let main_v0 : FVec F S2x4x8448x1 .bf16 := (extractStridedSlice S2x4x8448x1 ![0, 0, 0, 64] · slices_S2x4x8448x128_S2x4x8448x1_0_0_0_64) main_arg2
  let main_v1 : FVec F S2x4x8448x1 .f32 := (extf .f32 · bitsLt_bf16_f32) main_v0
  let main_cst : FVec F S_ .f32 := constant S_ .f32 0x3F800000#32
  let main_v2 : FVec F S2x4x8448x1 .f32 := broadcastInDim S2x4x8448x1 ![] bcast_S_S2x4x8448x1 main_cst
  let main_v3 : IVec S2x4x8448x1 1 := cmpf .oeq main_v1 main_v2
  let main_c : IVec S_ 1 := constantI S_ 1 1#1
  let main_v4 : IVec S_ 1 := (fun x v => Host.reduce IntOp.andi x v reducesTo_S2x4x8448x1_S_d0_1_2_3 h_S_) main_v3 main_c
  let main_v5 : FVec F S2x4x8192x128 .bf16 := (extractStridedSlice S2x4x8192x128 ![0, 0, 0, 0] · slices_S2x4x8448x128_S2x4x8192x128_0_0_0_0) main_arg0
  let main_v6 : FVec F S2x4x8192x128 .f32 := (extf .f32 · bitsLt_bf16_f32) main_v5
  let main_v7 : FVec F S2x4x8192x128 .f32 := Host.absf main_v6
  let main_cst_0 : FVec F S_ .f32 := constant S_ .f32 0x7F800000#32
  let main_v8 : FVec F S2x4x8192x128 .f32 := broadcastInDim S2x4x8192x128 ![] bcast_S_S2x4x8192x128 main_cst_0
  let main_v9 : IVec S2x4x8192x128 1 := cmpf .olt main_v7 main_v8
  let main_c_1 : IVec S_ 1 := constantI S_ 1 1#1
  let main_v10 : IVec S_ 1 := (fun x v => Host.reduce IntOp.andi x v reducesTo_S2x4x8192x128_S_d0_1_2_3 h_S_) main_v9 main_c_1
  let main_v11 : FVec F S2x4x8448x128 .f32 := (extf .f32 · bitsLt_bf16_f32) main_arg1
  let main_v12 : FVec F S2x4x8448x128 .f32 := Host.absf main_v11
  let main_cst_2 : FVec F S_ .f32 := constant S_ .f32 0x7F800000#32
  let main_v13 : FVec F S2x4x8448x128 .f32 := broadcastInDim S2x4x8448x128 ![] bcast_S_S2x4x8448x128 main_cst_2
  let main_v14 : IVec S2x4x8448x128 1 := cmpf .olt main_v12 main_v13
  let main_c_3 : IVec S_ 1 := constantI S_ 1 1#1
  let main_v15 : IVec S_ 1 := (fun x v => Host.reduce IntOp.andi x v reducesTo_S2x4x8448x128_S_d0_1_2_3 h_S_) main_v14 main_c_3
  let main_v16 : IVec S_ 1 := andi main_v10 main_v15
  let main_v17 : IVec S_ 1 := andi main_v16 main_v4
  main_v17
-- ==== Pre_packed_rope.lean ====
abbrev S2x8448x2944 : Shape := ⟨3, ![2, 8448, 2944]⟩
abbrev S256 : Shape := ⟨1, ![256]⟩
abbrev S256x384 : Shape := ⟨2, ![256, 384]⟩
abbrev S128 : Shape := ⟨1, ![128]⟩
abbrev S128x512 : Shape := ⟨2, ![128, 512]⟩
abbrev S2x8448x64 : Shape := ⟨3, ![2, 8448, 64]⟩
abbrev S_ : Shape := ⟨0, ![]⟩
abbrev S2x8448x16 : Shape := ⟨3, ![2, 8448, 16]⟩
abbrev S2x8448x256 : Shape := ⟨3, ![2, 8448, 256]⟩

class Facts : Prop where
  slices_S2x8448x2944_S2x8448x64_0_0_2688 : S2x8448x2944.Slices ![0, 0, 2688] S2x8448x64
  bcast_S_S2x8448x64 : S_.BroadcastsInDim S2x8448x64 (![] : Fin 0 → Fin S2x8448x64.rank)
  reducesTo_S2x8448x64_S_d0_1_2 : S2x8448x64.ReducesTo [0, 1, 2] S_
  h_S_ : 0 < S_.numel
  slices_S2x8448x2944_S2x8448x16_0_0_2880 : S2x8448x2944.Slices ![0, 0, 2880] S2x8448x16
  slices_S2x8448x2944_S2x8448x16_0_0_2768 : S2x8448x2944.Slices ![0, 0, 2768] S2x8448x16
  reducesTo_S2x8448x16_S_d0_1_2 : S2x8448x16.ReducesTo [0, 1, 2] S_
  slices_S2x8448x2944_S2x8448x16_0_0_2896 : S2x8448x2944.Slices ![0, 0, 2896] S2x8448x16
  slices_S2x8448x2944_S2x8448x16_0_0_2752 : S2x8448x2944.Slices ![0, 0, 2752] S2x8448x16
  slices_S2x8448x2944_S2x8448x256_0_0_1536 : S2x8448x2944.Slices ![0, 0, 1536] S2x8448x256
  bcast_S_S2x8448x256 : S_.BroadcastsInDim S2x8448x256 (![] : Fin 0 → Fin S2x8448x256.rank)
  reducesTo_S2x8448x256_S_d0_1_2 : S2x8448x256.ReducesTo [0, 1, 2] S_
  bcast_S_S256 : S_.BroadcastsInDim S256 (![] : Fin 0 → Fin S256.rank)
  reducesTo_S256_S_d0 : S256.ReducesTo [0] S_
  bcast_S_S256x384 : S_.BroadcastsInDim S256x384 (![] : Fin 0 → Fin S256x384.rank)
  reducesTo_S256x384_S_d0_1 : S256x384.ReducesTo [0, 1] S_

variable [Facts]

def fn_part1 {F : FTy → Type} [FloatOps F] (main_arg1 : FVec F S256 .f32) (main_arg2 : FVec F S256x384 .f32) (main_v3 : IVec S_ 1) (main_v8 : IVec S_ 1) (main_v12 : IVec S_ 1) (main_v17 : IVec S_ 1) : IVec S_ 1 :=
  let main_v18 : FVec F S256 .f32 := Host.absf main_arg1
  let main_cst_4 : FVec F S_ .f32 := constant S_ .f32 0x7F800000#32
  let main_v19 : FVec F S256 .f32 := broadcastInDim S256 ![] bcast_S_S256 main_cst_4
  let main_v20 : IVec S256 1 := cmpf .olt main_v18 main_v19
  let main_c_5 : IVec S_ 1 := constantI S_ 1 1#1
  let main_v21 : IVec S_ 1 := (fun x v => Host.reduce IntOp.andi x v reducesTo_S256_S_d0 h_S_) main_v20 main_c_5
  let main_v22 : IVec S_ 1 := andi main_v17 main_v21
  let main_v23 : FVec F S256x384 .f32 := Host.absf main_arg2
  let main_cst_6 : FVec F S_ .f32 := constant S_ .f32 0x7F800000#32
  let main_v24 : FVec F S256x384 .f32 := broadcastInDim S256x384 ![] bcast_S_S256x384 main_cst_6
  let main_v25 : IVec S256x384 1 := cmpf .olt main_v23 main_v24
  let main_c_7 : IVec S_ 1 := constantI S_ 1 1#1
  let main_v26 : IVec S_ 1 := (fun x v => Host.reduce IntOp.andi x v reducesTo_S256x384_S_d0_1 h_S_) main_v25 main_c_7
  let main_v27 : IVec S_ 1 := andi main_v22 main_v26
  let main_v28 : IVec S_ 1 := andi main_v27 main_v3
  let main_v29 : IVec S_ 1 := andi main_v28 main_v8
  let main_v30 : IVec S_ 1 := andi main_v29 main_v12
  main_v30

def fn {F : FTy → Type} [FloatOps F] (main_arg0 : FVec F S2x8448x2944 .f32) (main_arg1 : FVec F S256 .f32) (main_arg2 : FVec F S256x384 .f32) (main_arg3 : FVec F S128 .f32) (main_arg4 : FVec F S128x512 .f32) : IVec S_ 1 :=
  let main_v0 : FVec F S2x8448x64 .f32 := (extractStridedSlice S2x8448x64 ![0, 0, 2688] · slices_S2x8448x2944_S2x8448x64_0_0_2688) main_arg0
  let main_cst : FVec F S_ .f32 := constant S_ .f32 0x00000000#32
  let main_v1 : FVec F S2x8448x64 .f32 := broadcastInDim S2x8448x64 ![] bcast_S_S2x8448x64 main_cst
  let main_v2 : IVec S2x8448x64 1 := cmpf .oeq main_v0 main_v1
  let main_c : IVec S_ 1 := constantI S_ 1 1#1
  let main_v3 : IVec S_ 1 := (fun x v => Host.reduce IntOp.andi x v reducesTo_S2x8448x64_S_d0_1_2 h_S_) main_v2 main_c
  let main_v4 : FVec F S2x8448x16 .f32 := (extractStridedSlice S2x8448x16 ![0, 0, 2880] · slices_S2x8448x2944_S2x8448x16_0_0_2880) main_arg0
  let main_v5 : FVec F S2x8448x16 .f32 := (extractStridedSlice S2x8448x16 ![0, 0, 2768] · slices_S2x8448x2944_S2x8448x16_0_0_2768) main_arg0
  let main_v6 : FVec F S2x8448x16 .f32 := Host.negf main_v5
  let main_v7 : IVec S2x8448x16 1 := cmpf .oeq main_v4 main_v6
  let main_c_0 : IVec S_ 1 := constantI S_ 1 1#1
  let main_v8 : IVec S_ 1 := (fun x v => Host.reduce IntOp.andi x v reducesTo_S2x8448x16_S_d0_1_2 h_S_) main_v7 main_c_0
  let main_v9 : FVec F S2x8448x16 .f32 := (extractStridedSlice S2x8448x16 ![0, 0, 2896] · slices_S2x8448x2944_S2x8448x16_0_0_2896) main_arg0
  let main_v10 : FVec F S2x8448x16 .f32 := (extractStridedSlice S2x8448x16 ![0, 0, 2752] · slices_S2x8448x2944_S2x8448x16_0_0_2752) main_arg0
  let main_v11 : IVec S2x8448x16 1 := cmpf .oeq main_v9 main_v10
  let main_c_1 : IVec S_ 1 := constantI S_ 1 1#1
  let main_v12 : IVec S_ 1 := (fun x v => Host.reduce IntOp.andi x v reducesTo_S2x8448x16_S_d0_1_2 h_S_) main_v11 main_c_1
  let main_v13 : FVec F S2x8448x256 .f32 := (extractStridedSlice S2x8448x256 ![0, 0, 1536] · slices_S2x8448x2944_S2x8448x256_0_0_1536) main_arg0
  let main_v14 : FVec F S2x8448x256 .f32 := Host.absf main_v13
  let main_cst_2 : FVec F S_ .f32 := constant S_ .f32 0x7F800000#32
  let main_v15 : FVec F S2x8448x256 .f32 := broadcastInDim S2x8448x256 ![] bcast_S_S2x8448x256 main_cst_2
  let main_v16 : IVec S2x8448x256 1 := cmpf .olt main_v14 main_v15
  let main_c_3 : IVec S_ 1 := constantI S_ 1 1#1
  let main_v17 : IVec S_ 1 := (fun x v => Host.reduce IntOp.andi x v reducesTo_S2x8448x256_S_d0_1_2 h_S_) main_v16 main_c_3
  fn_part1 (F := F) main_arg1 main_arg2 main_v3 main_v8 main_v12 main_v17
-- ==== Attn.lean ====
abbrev S2x4x8448x128 : Shape := ⟨4, ![2, 4, 8448, 128]⟩
abbrev S2x8192x256 : Shape := ⟨3, ![2, 8192, 256]⟩
abbrev S1x4x1024x128 : Shape := ⟨4, ![1, 4, 1024, 128]⟩
abbrev S1x4x768x128 : Shape := ⟨4, ![1, 4, 768, 128]⟩
abbrev S1x1024x256 : Shape := ⟨3, ![1, 1024, 256]⟩
abbrev S4x1024x128 : Shape := ⟨3, ![4, 1024, 128]⟩
abbrev S1x1x1024x128 : Shape := ⟨4, ![1, 1, 1024, 128]⟩
abbrev S1024x128 : Shape := ⟨2, ![1024, 128]⟩
abbrev S1x1x768x128 : Shape := ⟨4, ![1, 1, 768, 128]⟩
abbrev S768x128 : Shape := ⟨2, ![768, 128]⟩
abbrev S1024x768 : Shape := ⟨2, ![1024, 768]⟩
abbrev S1x1024x128 : Shape := ⟨3, ![1, 1024, 128]⟩
abbrev S1024 : Shape := ⟨1, ![1024]⟩
abbrev S1024x1 : Shape := ⟨2, ![1024, 1]⟩
abbrev S1024x64 : Shape := ⟨2, ![1024, 64]⟩
abbrev S1024x256 : Shape := ⟨2, ![1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S2x4x8448x128, .bf16⟩
  | .hbm, ⟨1, _⟩ => ⟨S2x4x8448x128, .bf16⟩
  | .hbm, ⟨2, _⟩ => ⟨S2x4x8448x128, .bf16⟩
  | .hbm, ⟨3, _⟩ => ⟨S2x8192x256, .f32⟩
  | .local _ .vmem, ⟨0, _⟩ => ⟨S1x4x1024x128, .bf16⟩
  | .local _ .vmem, ⟨1, _⟩ => ⟨S1x4x1024x128, .bf16⟩
  | .local _ .vmem, ⟨2, _⟩ => ⟨S1x4x768x128, .bf16⟩
  | .local _ .vmem, ⟨3, _⟩ => ⟨S1x4x768x128, .bf16⟩
  | .local _ .vmem, ⟨4, _⟩ => ⟨S1x4x768x128, .bf16⟩
  | .local _ .vmem, ⟨5, _⟩ => ⟨S1x4x768x128, .bf16⟩
  | .local _ .vmem, ⟨6, _⟩ => ⟨S1x1024x256, .f32⟩
  | .local _ .vmem, ⟨7, _⟩ => ⟨S1x1024x256, .f32⟩
  | .local _ .vmem, ⟨8, _⟩ => ⟨S4x1024x128, .f32⟩
  | .local _ .vmem, ⟨9, _⟩ => ⟨S4x1024x128, .f32⟩
  | _, _ => ⟨S2x4x8448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 11], ![false, false, false]⟩

def k0_cond2 (i : grid0.Coords) : BitVec 1 :=
  let arg2 : BitVec 32 := BitVec.ofNat 32 (i 2).val
  let c10_i32 : BitVec 32 := 10#32
  let v123 : BitVec 1 := Scalar.cmpi .eq arg2 c10_i32
  let v124 : BitVec 32 := Scalar.extui v123
  let c0_i32_104 : BitVec 32 := 0#32
  let v125 : BitVec 1 := Scalar.cmpi .ne v124 c0_i32_104
  v125

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![arg0.toNat, c0_i32_0.toNat, v0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![arg0.toNat, c0_i32_0.toNat, v0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnRefIdeal.lean ====
abbrev S2x4x8448x128 : Shape := ⟨4, ![2, 4, 8448, 128]⟩
abbrev S2x4x8192x128 : Shape := ⟨4, ![2, 4, 8192, 128]⟩
abbrev S2x4x8448x64 : Shape := ⟨4, ![2, 4, 8448, 64]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x4x64 : Shape := ⟨4, ![2, 8192, 4, 64]⟩
abbrev S2x8192x256 : Shape := ⟨3, ![2, 8192, 256]⟩

abbrev nBuf : Space → Nat
  | .hbm => 26
  | .vmem => 0
  | .smem => 0
  | _ => 0

abbrev bufTy : (tb : Table) → Fin (tcTables nBuf tb) → BufTy
  | .hbm, ⟨0, _⟩ => ⟨S2x4x8448x128, .bf16⟩
  | .hbm, ⟨1, _⟩ => ⟨S2x4x8448x128, .bf16⟩
  | .hbm, ⟨2, _⟩ => ⟨S2x4x8448x128, .bf16⟩
  | .hbm, ⟨3, _⟩ => ⟨S2x4x8192x128, .bf16⟩
  | .hbm, ⟨4, _⟩ => ⟨S2x4x8192x128, .f32⟩
  | .hbm, ⟨5, _⟩ => ⟨S2x4x8448x128, .f32⟩
  | .hbm, ⟨6, _⟩ => ⟨S2x4x8448x64, .bf16⟩
  | .hbm, ⟨7, _⟩ => ⟨S2x4x8448x64, .f32⟩
  | .hbm, ⟨8, _⟩ => ⟨S2x4x8192x8448, .f32⟩
  | .hbm, ⟨9, _⟩ => ⟨S_, .f32⟩
  | .hbm, ⟨10, _⟩ => ⟨S2x4x8192, .f32⟩
  | .hbm, ⟨11, _⟩ => ⟨S_, .f32⟩
  | .hbm, ⟨12, _⟩ => ⟨S2x4x8192, .f32⟩
  | .hbm, ⟨13, _⟩ => ⟨S2x4x8192, .f32⟩
  | .hbm, ⟨14, _⟩ => ⟨S2x4x8192x1, .f32⟩
  | .hbm, ⟨15, _⟩ => ⟨S2x4x8192x8448, .f32⟩
  | .hbm, ⟨16, _⟩ => ⟨S2x4x8192x8448, .f32⟩
  | .hbm, ⟨17, _⟩ => ⟨S2x4x8192x8448, .f32⟩
  | .hbm, ⟨18, _⟩ => ⟨S_, .f32⟩
  | .hbm, ⟨19, _⟩ => ⟨S2x4x8192, .f32⟩
  | .hbm, ⟨20, _⟩ => ⟨S2x4x8192x1, .f32⟩
  | .hbm, ⟨21, _⟩ => ⟨S2x4x8192x8448, .f32⟩
  | .hbm, ⟨22, _⟩ => ⟨S2x4x8192x8448, .f32⟩
  | .hbm, ⟨23, _⟩ => ⟨S2x4x64x8192, .f32⟩
  | .hbm, ⟨24, _⟩ => ⟨S2x8192x4x64, .f32⟩
  | .hbm, ⟨25, _⟩ => ⟨S2x8192x256, .f32⟩
  | _, _ => ⟨S2x4x8448x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== InProj.lean ====
abbrev S2x8192x1024 : Shape := ⟨3, ![2, 8192, 1024]⟩
abbrev S2x256x1024 : Shape := ⟨3, ![2, 256, 1024]⟩
abbrev S1024 : Shape := ⟨1, ![1024]⟩
abbrev S2x1x1024 : Shape := ⟨3, ![2, 1, 1024]⟩
abbrev S1x1x1024 : Shape := ⟨3, ![1, 1, 1024]⟩
abbrev S1024x2944 : Shape := ⟨2, ![1024, 2944]⟩
abbrev S2x8448x1024 : Shape := ⟨3, ![2, 8448, 1024]⟩
abbrev S3x1x1024 : Shape := ⟨3, ![3, 1, 1024]⟩
abbrev S1x1024 : Shape := ⟨2, ![1, 1024]⟩
abbrev S2x8448x2944 : Shape := ⟨3, ![2, 8448, 2944]⟩
abbrev S1x256x1024 : Shape := ⟨3, ![1, 256, 1024]⟩
abbrev S1x256x2944 : Shape := ⟨3, ![1, 256, 2944]⟩
abbrev S256x1024 : Shape := ⟨2, ![256, 1024]⟩
abbrev S256 : Shape := ⟨1, ![256]⟩
abbrev S256x1 : Shape := ⟨2, ![256, 1]⟩
abbrev S256x2944 : Shape := ⟨2, ![256, 2944]⟩

abbrev nBuf : Space → Nat
  | .hbm => 14
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S1024, .f32⟩
  | .hbm, ⟨3, _⟩ => ⟨S2x1x1024, .f32⟩
  | .hbm, ⟨4, _⟩ => ⟨S1x1x1024, .f32⟩
  | .hbm, ⟨5, _⟩ => ⟨S2x1x1024, .f32⟩
  | .hbm, ⟨6, _⟩ => ⟨S1x1x1024, .f32⟩
  | .hbm, ⟨7, _⟩ => ⟨S1024x2944, .f32⟩
  | .hbm, ⟨8, _⟩ => ⟨S2x8448x1024, .f32⟩
  | .hbm, ⟨9, _⟩ => ⟨S3x1x1024, .f32⟩
  | .hbm, ⟨10, _⟩ => ⟨S3x1x1024, .f32⟩
  | .hbm, ⟨11, _⟩ => ⟨S1024x2944, .bf16⟩
  | .hbm, ⟨12, _⟩ => ⟨S1x1024, .f32⟩
  | .hbm, ⟨13, _⟩ => ⟨S2x8448x2944, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2944, .bf16⟩
  | .local _ .vmem, ⟨8, _⟩ => ⟨S1x256x2944, .f32⟩
  | .local _ .vmem, ⟨9, _⟩ => ⟨S1x256x2944, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c2_i32 : BitVec 32 := 2#32
  let v1 : BitVec 32 := Scalar.select v0 arg0 c2_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c2_i32 : BitVec 32 := 2#32
  let v1 : BitVec 32 := Scalar.select v0 arg0 c2_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S2x8192x1024 : Shape := ⟨3, ![2, 8192, 1024]⟩
abbrev S2x256x1024 : Shape := ⟨3, ![2, 256, 1024]⟩
abbrev S1024 : Shape := ⟨1, ![1024]⟩
abbrev S2x1x1024 : Shape := ⟨3, ![2, 1, 1024]⟩
abbrev S1x1x1024 : Shape := ⟨3, ![1, 1, 1024]⟩
abbrev S1024x2944 : Shape := ⟨2, ![1024, 2944]⟩
abbrev S_ : Shape := ⟨0, ![]⟩
abbrev S2x8192 : Shape := ⟨2, ![2, 8192]⟩
abbrev S2x8192x1 : Shape := ⟨3, ![2, 8192, 1]⟩
abbrev S2x8192x2944 : Shape := ⟨3, ![2, 8192, 2944]⟩
abbrev S2x256 : Shape := ⟨2, ![2, 256]⟩
abbrev S2x256x1 : Shape := ⟨3, ![2, 256, 1]⟩
abbrev S2x256x2944 : Shape := ⟨3, ![2, 256, 2944]⟩
abbrev S2x8448x2944 : Shape := ⟨3, ![2, 8448, 2944]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S1024, .f32⟩
  | .hbm, ⟨3, _⟩ => ⟨S2x1x1024, .f32⟩
  | .hbm, ⟨4, _⟩ => ⟨S1x1x1024, .f32⟩
  | .hbm, ⟨5, _⟩ => ⟨S2x1x1024, .f32⟩
  | .hbm, ⟨6, _⟩ => ⟨S1x1x1024, .f32⟩
  | .hbm, ⟨7, _⟩ => ⟨S1024x2944, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x2944, .f32⟩
  | .hbm, ⟨32, _⟩ => ⟨S2x256x1024, .f32⟩
  | .hbm, ⟨33, _⟩ => ⟨S_, .f32⟩
  | .hbm, ⟨34, _⟩ => ⟨S2x256, .f32⟩
  | .hbm, ⟨35, _⟩ => ⟨S2x256x1, .f32⟩
  | .hbm, ⟨36, _⟩ => ⟨S_, .f32⟩
  | .hbm, ⟨37, _⟩ => ⟨S2x256x1, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S2x256x1, .f32⟩
  | .hbm, ⟨43, _⟩ => ⟨S2x256x1024, .f32⟩
  | .hbm, ⟨44, _⟩ => ⟨S2x256x1024, .f32⟩
  | .hbm, ⟨45, _⟩ => ⟨S1x1x1024, .f32⟩
  | .hbm, ⟨46, _⟩ => ⟨S2x256x1024, .f32⟩
  | .hbm, ⟨47, _⟩ => ⟨S2x256x1024, .f32⟩
  | .hbm, ⟨48, _⟩ => ⟨S_, .f32⟩
  | .hbm, ⟨49, _⟩ => ⟨S1x1x1024, .f32⟩
  | .hbm, ⟨50, _⟩ => ⟨S1x1x1024, .f32⟩
  | .hbm, ⟨51, _⟩ => ⟨S2x256x1024, .f32⟩
  | .hbm, ⟨52, _⟩ => ⟨S2x256x1024, .f32⟩
  | .hbm, ⟨53, _⟩ => ⟨S2x256x1024, .f32⟩
  | .hbm, ⟨54, _⟩ => ⟨S2x256x1024, .f32⟩
  | .hbm, ⟨55, _⟩ => ⟨S2x256x2944, .f32⟩
  | .hbm, ⟨56, _⟩ => ⟨S2x8448x2944, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== MixPost.lean ====
abbrev S2x8192x1024 : Shape := ⟨3, ![2, 8192, 1024]⟩
abbrev S2x8448x2944 : Shape := ⟨3, ![2, 8448, 2944]⟩
abbrev S2x8448x768 : Shape := ⟨3, ![2, 8448, 768]⟩
abbrev S2x8448x256 : Shape := ⟨3, ![2, 8448, 256]⟩
abbrev S2x8192x256 : Shape := ⟨3, ![2, 8192, 256]⟩
abbrev S4 : Shape := ⟨1, ![4]⟩
abbrev S256 : Shape := ⟨1, ![256]⟩
abbrev S64 : Shape := ⟨1, ![64]⟩
abbrev S256x256 : Shape := ⟨2, ![256, 256]⟩
abbrev S1024x1024 : Shape := ⟨2, ![1024, 1024]⟩
abbrev S2x1x1024 : Shape := ⟨3, ![2, 1, 1024]⟩
abbrev S4x64 : Shape := ⟨2, ![4, 64]⟩
abbrev S1x256 : Shape := ⟨2, ![1, 256]⟩
abbrev S1x64 : Shape := ⟨2, ![1, 64]⟩
abbrev S1x256x1024 : Shape := ⟨3, ![1, 256, 1024]⟩
abbrev S1x256x256 : Shape := ⟨3, ![1, 256, 256]⟩
abbrev S1x1x1024 : Shape := ⟨3, ![1, 1, 1024]⟩
abbrev S256x1 : Shape := ⟨2, ![256, 1]⟩
abbrev S256x64 : Shape := ⟨2, ![256, 64]⟩
abbrev S256x1024 : Shape := ⟨2, ![256, 1024]⟩
abbrev S1x1024 : Shape := ⟨2, ![1, 1024]⟩

abbrev nBuf : Space → Nat
  | .hbm => 30
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S2x8448x2944, .f32⟩
  | .hbm, ⟨2, _⟩ => ⟨S2x8448x768, .f32⟩
  | .hbm, ⟨3, _⟩ => ⟨S2x8448x256, .f32⟩
  | .hbm, ⟨4, _⟩ => ⟨S2x8448x256, .f32⟩
  | .hbm, ⟨5, _⟩ => ⟨S2x8448x256, .f32⟩
  | .hbm, ⟨6, _⟩ => ⟨S2x8448x256, .f32⟩
  | .hbm, ⟨7, _⟩ => ⟨S2x8192x256, .f32⟩
  | .hbm, ⟨8, _⟩ => ⟨S2x8448x256, .f32⟩
  | .hbm, ⟨9, _⟩ => ⟨S4, .f32⟩
  | .hbm, ⟨10, _⟩ => ⟨S256, .f32⟩
  | .hbm, ⟨11, _⟩ => ⟨S64, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1024x1024, .f32⟩
  | .hbm, ⟨16, _⟩ => ⟨S2x1x1024, .f32⟩
  | .hbm, ⟨17, _⟩ => ⟨S4x64, .f32⟩
  | .hbm, ⟨18, _⟩ => ⟨S256, .f32⟩
  | .hbm, ⟨19, _⟩ => ⟨S1x256, .f32⟩
  | .hbm, ⟨20, _⟩ => ⟨S1x256, .f32⟩
  | .hbm, ⟨21, _⟩ => ⟨S1x64, .f32⟩
  | .hbm, ⟨22, _⟩ => ⟨S4x64, .f32⟩
  | .hbm, ⟨23, _⟩ => ⟨S256, .f32⟩
  | .hbm, ⟨24, _⟩ => ⟨S1x256, .f32⟩
  | .hbm, ⟨25, _⟩ => ⟨S1x256, .f32⟩
  | .hbm, ⟨26, _⟩ => ⟨S256x256, .bf16⟩
  | .hbm, ⟨27, _⟩ => ⟨S1x256, .f32⟩
  | .hbm, ⟨28, _⟩ => ⟨S1024x1024, .bf16⟩
  | .hbm, ⟨29, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S1024x1024, .bf16⟩
  | .local _ .vmem, ⟨29, _⟩ => ⟨S1x1x1024, .f32⟩
  | .local _ .vmem, ⟨30, _⟩ => ⟨S1x1x1024, .f32⟩
  | .local _ .vmem, ⟨31, _⟩ => ⟨S1x256x1024, .f32⟩
  | .local _ .vmem, ⟨32, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  ![arg0.toNat, v0.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c5_i32 : BitVec 32 := 5#32
  let c0_i32_0 : BitVec 32 := 0#32
  ![arg0.toNat, v0.toNat, c5_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c7_i32 : BitVec 32 := 7#32
  let c0_i32_0 : BitVec 32 := 0#32
  ![arg0.toNat, v0.toNat, c7_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixPostRefIdeal.lean ====
abbrev S2x8192x1024 : Shape := ⟨3, ![2, 8192, 1024]⟩
abbrev S2x8448x2944 : Shape := ⟨3, ![2, 8448, 2944]⟩
abbrev S2x8448x768 : Shape := ⟨3, ![2, 8448, 768]⟩
abbrev S2x8448x256 : Shape := ⟨3, ![2, 8448, 256]⟩
abbrev S2x8192x256 : Shape := ⟨3, ![2, 8192, 256]⟩
abbrev S4 : Shape := ⟨1, ![4]⟩
abbrev S256 : Shape := ⟨1, ![256]⟩
abbrev S64 : Shape := ⟨1, ![64]⟩
abbrev S256x256 : Shape := ⟨2, ![256, 256]⟩
abbrev S1024x1024 : Shape := ⟨2, ![1024, 1024]⟩
abbrev S2x1x1024 : Shape := ⟨3, ![2, 1, 1024]⟩
abbrev S2x8192x4x64 : Shape := ⟨4, ![2, 8192, 4, 64]⟩
abbrev S4x1 : Shape := ⟨2, ![4, 1]⟩
abbrev S1x1x4x1 : Shape := ⟨4, ![1, 1, 4, 1]⟩
abbrev S_ : Shape := ⟨0, ![]⟩
abbrev S2x8192 : Shape := ⟨2, ![2, 8192]⟩
abbrev S2x8192x1 : Shape := ⟨3, ![2, 8192, 1]⟩
abbrev S1x1x256 : Shape := ⟨3, ![1, 1, 256]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩

abbrev nBuf : Space → Nat
  | .hbm => 119
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8448x2944, .f32⟩
  | .hbm, ⟨2, _⟩ => ⟨S2x8448x768, .f32⟩
  | .hbm, ⟨3, _⟩ => ⟨S2x8448x256, .f32⟩
  | .hbm, ⟨4, _⟩ => ⟨S2x8448x256, .f32⟩
  | .hbm, ⟨5, _⟩ => ⟨S2x8448x256, .f32⟩
  | .hbm, ⟨6, _⟩ => ⟨S2x8448x256, .f32⟩
  | .hbm, ⟨7, _⟩ => ⟨S2x8192x256, .f32⟩
  | .hbm, ⟨8, _⟩ => ⟨S2x8448x256, .f32⟩
  | .hbm, ⟨9, _⟩ => ⟨S4, .f32⟩
  | .hbm, ⟨10, _⟩ => ⟨S256, .f32⟩
  | .hbm, ⟨11, _⟩ => ⟨S64, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1024x1024, .f32⟩
  | .hbm, ⟨16, _⟩ => ⟨S2x1x1024, .f32⟩
  | .hbm, ⟨17, _⟩ => ⟨S2x8192x256, .f32⟩
  | .hbm, ⟨18, _⟩ => ⟨S2x8192x256, .f32⟩
  | .hbm, ⟨19, _⟩ => ⟨S2x8192x256, .f32⟩
  | .hbm, ⟨20, _⟩ => ⟨S2x8192x256, .f32⟩
  | .hbm, ⟨21, _⟩ => ⟨S2x8448x256, .f32⟩
  | .hbm, ⟨22, _⟩ => ⟨S2x8192x256, .f32⟩
  | .hbm, ⟨23, _⟩ => ⟨S2x8192x4x64, .f32⟩
  | .hbm, ⟨24, _⟩ => ⟨S4x1, .f32⟩
  | .hbm, ⟨25, _⟩ => ⟨S2x8192x4x64, .f32⟩
  | .hbm, ⟨26, _⟩ => ⟨S1x1x4x1, .f32⟩
  | .hbm, ⟨27, _⟩ => ⟨S2x8192x4x64, .f32⟩
  | .hbm, ⟨28, _⟩ => ⟨S2x8192x4x64, .f32⟩
  | .hbm, ⟨29, _⟩ => ⟨S2x8192x4x64, .f32⟩
  | .hbm, ⟨30, _⟩ => ⟨S2x8192x256, .f32⟩
  | .hbm, ⟨31, _⟩ => ⟨S2x8192x256, .f32⟩
  | .hbm, ⟨32, _⟩ => ⟨S2x8192x256, .f32⟩
  | .hbm, ⟨33, _⟩ => ⟨S_, .f32⟩
  | .hbm, ⟨34, _⟩ => ⟨S2x8192x256, .f32⟩
  | .hbm, ⟨35, _⟩ => ⟨S2x8192x256, .f32⟩
  | .hbm, ⟨36, _⟩ => ⟨S_, .f32⟩
  | .hbm, ⟨37, _⟩ => ⟨S2x8192x256, .f32⟩
  | .hbm, ⟨38, _⟩ => ⟨S2x8192x256, .f32⟩
  | .hbm, ⟨39, _⟩ => ⟨S2x8192x256, .f32⟩
  | .hbm, ⟨40, _⟩ => ⟨S2x8192x256, .f32⟩
  | .hbm, ⟨41, _⟩ => ⟨S2x8192x256, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1, .f32⟩
  | .hbm, ⟨52, _⟩ => ⟨S2x8192x256, .f32⟩
  | .hbm, ⟨53, _⟩ => ⟨S2x8192x256, .f32⟩
  | .hbm, ⟨54, _⟩ => ⟨S1x1x256, .f32⟩
  | .hbm, ⟨55, _⟩ => ⟨S2x8192x256, .f32⟩
  | .hbm, ⟨56, _⟩ => ⟨S2x8192x256, .f32⟩
  | .hbm, ⟨57, _⟩ => ⟨S2x8448x256, .f32⟩
  | .hbm, ⟨58, _⟩ => ⟨S2x8192x256, .f32⟩
  | .hbm, ⟨59, _⟩ => ⟨S2x8192x4x64, .f32⟩
  | .hbm, ⟨60, _⟩ => ⟨S2x8192x4x64, .f32⟩
  | .hbm, ⟨61, _⟩ => ⟨S_, .f32⟩
  | .hbm, ⟨62, _⟩ => ⟨S2x8192x4, .f32⟩
  | .hbm, ⟨63, _⟩ => ⟨S2x8192x4x1, .f32⟩
  | .hbm, ⟨64, _⟩ => ⟨S_, .f32⟩
  | .hbm, ⟨65, _⟩ => ⟨S2x8192x4x1, .f32⟩
  | .hbm, ⟨66, _⟩ => ⟨S2x8192x4x1, .f32⟩
  | .hbm, ⟨67, _⟩ => ⟨S_, .f32⟩
  | .hbm, ⟨68, _⟩ => ⟨S2x8192x4x1, .f32⟩
  | .hbm, ⟨69, _⟩ => ⟨S2x8192x4x1, .f32⟩
  | .hbm, ⟨70, _⟩ => ⟨S2x8192x4x1, .f32⟩
  | .hbm, ⟨71, _⟩ => ⟨S2x8192x4x64, .f32⟩
  | .hbm, ⟨72, _⟩ => ⟨S2x8192x4x64, .f32⟩
  | .hbm, ⟨73, _⟩ => ⟨S1x1x1x64, .f32⟩
  | .hbm, ⟨74, _⟩ => ⟨S2x8192x4x64, .f32⟩
  | .hbm, ⟨75, _⟩ => ⟨S2x8192x4x64, .f32⟩
  | .hbm, ⟨76, _⟩ => ⟨S2x8192x256, .f32⟩
  | .hbm, ⟨77, _⟩ => ⟨S2x8192x256, .f32⟩
  | .hbm, ⟨78, _⟩ => ⟨S2x8192x256, .f32⟩
  | .hbm, ⟨79, _⟩ => ⟨S_, .f32⟩
  | .hbm, ⟨80, _⟩ => ⟨S2x8192x256, .f32⟩
  | .hbm, ⟨81, _⟩ => ⟨S2x8192x256, .f32⟩
  | .hbm, ⟨82, _⟩ => ⟨S_, .f32⟩
  | .hbm, ⟨83, _⟩ => ⟨S2x8192x256, .f32⟩
  | .hbm, ⟨84, _⟩ => ⟨S2x8192x256, .f32⟩
  | .hbm, ⟨85, _⟩ => ⟨S2x8192x256, .f32⟩
  | .hbm, ⟨86, _⟩ => ⟨S2x8192x256, .f32⟩
  | .hbm, ⟨87, _⟩ => ⟨S2x8192x256, .f32⟩
  | .hbm, ⟨88, _⟩ => ⟨S1x1x256, .f32⟩
  | .hbm, ⟨89, _⟩ => ⟨S2x8192x256, .f32⟩
  | .hbm, ⟨90, _⟩ => ⟨S2x8192x256, .f32⟩
  | .hbm, ⟨91, _⟩ => ⟨S2x8192x256, .f32⟩
  | .hbm, ⟨92, _⟩ => ⟨S_, .f32⟩
  | .hbm, ⟨93, _⟩ => ⟨S2x8192x256, .f32⟩
  | .hbm, ⟨94, _⟩ => ⟨S2x8192x256, .f32⟩
  | .hbm, ⟨95, _⟩ => ⟨S2x8192x256, .f32⟩
  | .hbm, ⟨96, _⟩ => ⟨S_, .f32⟩
  | .hbm, ⟨97, _⟩ => ⟨S2x8192x256, .f32⟩
  | .hbm, ⟨98, _⟩ => ⟨S2x8192x256, .f32⟩
  | .hbm, ⟨99, _⟩ => ⟨S2x8192x256, .f32⟩
  | .hbm, ⟨100, _⟩ => ⟨S2x8192x256, .f32⟩
  | .hbm, ⟨101, _⟩ => ⟨S2x8192x256, .f32⟩
  | .hbm, ⟨102, _⟩ => ⟨S1x1x256, .f32⟩
  | .hbm, ⟨103, _⟩ => ⟨S2x8192x256, .f32⟩
  | .hbm, ⟨104, _⟩ => ⟨S2x8192x256, .f32⟩
  | .hbm, ⟨105, _⟩ => ⟨S2x8192x256, .f32⟩
  | .hbm, ⟨106, _⟩ => ⟨S2x8192x256, .f32⟩
  | .hbm, ⟨107, _⟩ => ⟨S_, .f32⟩
  | .hbm, ⟨108, _⟩ => ⟨S2x8192x256, .f32⟩
  | .hbm, ⟨109, _⟩ => ⟨S2x8192x256, .f32⟩
  | .hbm, ⟨110, _⟩ => ⟨S_, .f32⟩
  | .hbm, ⟨111, _⟩ => ⟨S2x8192x256, .f32⟩
  | .hbm, ⟨112, _⟩ => ⟨S2x8192x256, .f32⟩
  | .hbm, ⟨113, _⟩ => ⟨S2x8192x256, .f32⟩
  | .hbm, ⟨114, _⟩ => ⟨S2x8192x1024, .f32⟩
  | .hbm, ⟨115, _⟩ => ⟨S2x8192x1024, .f32⟩
  | .hbm, ⟨116, _⟩ => ⟨S2x8192x1024, .f32⟩
  | .hbm, ⟨117, _⟩ => ⟨S2x8192x1024, .f32⟩
  | .hbm, ⟨118, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_cst_1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_2 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_5 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_6 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_7 : Ref sig .tc := ⟨.hbm, 107, rfl⟩
abbrev main_v66 : Ref sig .tc := ⟨.hbm, 108, rfl⟩
abbrev main_v67 : Ref sig .tc := ⟨.hbm, 109, rfl⟩
abbrev main_cst_8 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩

abbrev nD : Nat := 1
abbrev τ : Topo := Topo.v7x

variable {F : FTy → Type} [FloatOps F]
-- ==== FinalNorm.lean ====
abbrev S2x8192x1024 : Shape := ⟨3, ![2, 8192, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x8192x1024, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x1024, .f32⟩
  | .hbm, ⟨14, _⟩ => ⟨S2x8192x1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | .hbm, ⟨18, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Prep.lean ====
abbrev S2x8448x2944 : Shape := ⟨3, ![2, 8448, 2944]⟩
abbrev S256 : Shape := ⟨1, ![256]⟩
abbrev S256x384 : Shape := ⟨2, ![256, 384]⟩
abbrev S128 : Shape := ⟨1, ![128]⟩
abbrev S128x512 : Shape := ⟨2, ![128, 512]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S256x16 : Shape := ⟨2, ![256, 16]⟩
abbrev S8448x16 : Shape := ⟨2, ![8448, 16]⟩
abbrev S8448x32 : Shape := ⟨2, ![8448, 32]⟩
abbrev S8448x64 : Shape := ⟨2, ![8448, 64]⟩
abbrev S8448x128 : Shape := ⟨2, ![8448, 128]⟩
abbrev S256x4x96 : Shape := ⟨3, ![256, 4, 96]⟩
abbrev S4x256x96 : Shape := ⟨3, ![4, 256, 96]⟩
abbrev S4x256x64 : Shape := ⟨3, ![4, 256, 64]⟩
abbrev S4x256x16 : Shape := ⟨3, ![4, 256, 16]⟩
abbrev S128x4x128 : Shape := ⟨3, ![128, 4, 128]⟩
abbrev S4x128x128 : Shape := ⟨3, ![4, 128, 128]⟩
abbrev S4x256x128 : Shape := ⟨3, ![4, 256, 128]⟩
abbrev S4x128x64 : Shape := ⟨3, ![4, 128, 64]⟩
abbrev S1x256 : Shape := ⟨2, ![1, 256]⟩
abbrev S1x128 : Shape := ⟨2, ![1, 128]⟩
abbrev S2x4x8448x128 : Shape := ⟨4, ![2, 4, 8448, 128]⟩
abbrev S1x256x256 : Shape := ⟨3, ![1, 256, 256]⟩
abbrev S1x256x128 : Shape := ⟨3, ![1, 256, 128]⟩
abbrev S256x128 : Shape := ⟨2, ![256, 128]⟩
abbrev S1x4x256x128 : Shape := ⟨4, ![1, 4, 256, 128]⟩
abbrev S256x256 : Shape := ⟨2, ![256, 256]⟩
abbrev S256x1 : Shape := ⟨2, ![256, 1]⟩
abbrev S1x1x256x128 : Shape := ⟨4, ![1, 1, 256, 128]⟩
abbrev S1x128x128 : Shape := ⟨3, ![1, 128, 128]⟩
abbrev S128x128 : Shape := ⟨2, ![128, 128]⟩

abbrev nBuf : Space → Nat
  | .hbm => 87
  | .vmem => 24
  | .smem => 0
  | _ => 0

abbrev bufTy : (tb : Table) → Fin (tcTables nBuf tb) → BufTy
  | .hbm, ⟨0, _⟩ => ⟨S2x8448x2944, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S128x64, .f32⟩
  | .hbm, ⟨7, _⟩ => ⟨S8192, .f32⟩
  | .hbm, ⟨8, _⟩ => ⟨S64, .f32⟩
  | .hbm, ⟨9, _⟩ => ⟨S1x64, .f32⟩
  | .hbm, ⟨10, _⟩ => ⟨S128x64, .f32⟩
  | .hbm, ⟨11, _⟩ => ⟨S8192, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8192x1, .f32⟩
  | .hbm, ⟨27, _⟩ => ⟨S1x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x1, .f32⟩
  | .hbm, ⟨32, _⟩ => ⟨S1x8, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S8192x16, .f32⟩
  | .hbm, ⟨37, _⟩ => ⟨S8192x16, .f32⟩
  | .hbm, ⟨38, _⟩ => ⟨S_, .f32⟩
  | .hbm, ⟨39, _⟩ => ⟨S256x16, .f32⟩
  | .hbm, ⟨40, _⟩ => ⟨S8448x16, .f32⟩
  | .hbm, ⟨41, _⟩ => ⟨S8192x16, .f32⟩
  | .hbm, ⟨42, _⟩ => ⟨S_, .f32⟩
  | .hbm, ⟨43, _⟩ => ⟨S256x16, .f32⟩
  | .hbm, ⟨44, _⟩ => ⟨S8448x16, .f32⟩
  | .hbm, ⟨45, _⟩ => ⟨S_, .f32⟩
  | .hbm, ⟨46, _⟩ => ⟨S8448x32, .f32⟩
  | .hbm, ⟨47, _⟩ => ⟨S_, .f32⟩
  | .hbm, ⟨48, _⟩ => ⟨S8448x64, .f32⟩
  | .hbm, ⟨49, _⟩ => ⟨S8448x128, .f32⟩
  | .hbm, ⟨50, _⟩ => ⟨S_, .f32⟩
  | .hbm, ⟨51, _⟩ => ⟨S8448x64, .f32⟩
  | .hbm, ⟨52, _⟩ => ⟨S8448x128, .f32⟩
  | .hbm, ⟨53, _⟩ => ⟨S256x4x96, .f32⟩
  | .hbm, ⟨54, _⟩ => ⟨S4x256x96, .f32⟩
  | .hbm, ⟨55, _⟩ => ⟨S4x256x64, .f32⟩
  | .hbm, ⟨56, _⟩ => ⟨S_, .f32⟩
  | .hbm, ⟨57, _⟩ => ⟨S4x256x64, .f32⟩
  | .hbm, ⟨58, _⟩ => ⟨S4x256x16, .f32⟩
  | .hbm, ⟨59, _⟩ => ⟨S4x256x16, .f32⟩
  | .hbm, ⟨60, _⟩ => ⟨S4x256x16, .f32⟩
  | .hbm, ⟨61, _⟩ => ⟨S4x256x96, .f32⟩
  | .hbm, ⟨62, _⟩ => ⟨S128x4x128, .f32⟩
  | .hbm, ⟨63, _⟩ => ⟨S4x128x128, .f32⟩
  | .hbm, ⟨64, _⟩ => ⟨S_, .i32⟩
  | .hbm, ⟨65, _⟩ => ⟨S_, .f32⟩
  | .hbm, ⟨66, _⟩ => ⟨S4x256x128, .f32⟩
  | .hbm, ⟨67, _⟩ => ⟨S4x256x128, .bf16⟩
  | .hbm, ⟨68, _⟩ => ⟨S_, .i32⟩
  | .hbm, ⟨69, _⟩ => ⟨S_, .f32⟩
  | .hbm, ⟨70, _⟩ => ⟨S4x256x128, .f32⟩
  | .hbm, ⟨71, _⟩ => ⟨S4x256x128, .bf16⟩
  | .hbm, ⟨72, _⟩ => ⟨S4x128x64, .f32⟩
  | .hbm, ⟨73, _⟩ => ⟨S_, .i32⟩
  | .hbm, ⟨74, _⟩ => ⟨S_, .f32⟩
  | .hbm, ⟨75, _⟩ => ⟨S4x128x128, .f32⟩
  | .hbm, ⟨76, _⟩ => ⟨S4x128x128, .bf16⟩
  | .hbm, ⟨77, _⟩ => ⟨S4x128x64, .f32⟩
  | .hbm, ⟨78, _⟩ => ⟨S_, .i32⟩
  | .hbm, ⟨79, _⟩ => ⟨S_, .f32⟩
  | .hbm, ⟨80, _⟩ => ⟨S4x128x128, .f32⟩
  | .hbm, ⟨81, _⟩ => ⟨S4x128x128, .bf16⟩
  | .hbm, ⟨82, _⟩ => ⟨S1x256, .f32⟩
  | .hbm, ⟨83, _⟩ => ⟨S1x128, .f32⟩
  | .hbm, ⟨84, _⟩ => ⟨S2x4x8448x128, .bf16⟩
  | .hbm, ⟨85, _⟩ => ⟨S2x4x8448x128, .bf16⟩
  | .hbm, ⟨86, _⟩ => ⟨S2x4x8448x128, .bf16⟩
  | .local _ .vmem, ⟨0, _⟩ => ⟨S1x256x256, .f32⟩
  | .local _ .vmem, ⟨1, _⟩ => ⟨S1x256x256, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256, .f32⟩
  | .local _ .vmem, ⟨13, _⟩ => ⟨S1x128, .f32⟩
  | .local _ .vmem, ⟨14, _⟩ => ⟨S4x256x128, .bf16⟩
  | .local _ .vmem, ⟨15, _⟩ => ⟨S4x256x128, .bf16⟩
  | .local _ .vmem, ⟨16, _⟩ => ⟨S4x128x128, .bf16⟩
  | .local _ .vmem, ⟨17, _⟩ => ⟨S4x128x128, .bf16⟩
  | .local _ .vmem, ⟨18, _⟩ => ⟨S1x4x256x128, .bf16⟩
  | .local _ .vmem, ⟨19, _⟩ => ⟨S1x4x256x128, .bf16⟩
  | .local _ .vmem, ⟨20, _⟩ => ⟨S1x4x256x128, .bf16⟩
  | .local _ .vmem, ⟨21, _⟩ => ⟨S1x4x256x128, .bf16⟩
  | .local _ .vmem, ⟨22, _⟩ => ⟨S1x4x256x128, .bf16⟩
  | .local _ .vmem, ⟨23, _⟩ => ⟨S1x4x256x128, .bf16⟩
  | _, _ => ⟨S2x8448x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c : Ref sig .tc := ⟨.hbm, 64, rfl⟩
abbrev main_call0_v0 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_call2_v0 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_call3_v0 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61_0 : Ref sig .tc := ⟨.hbm, 84, rfl⟩
abbrev main_v61_1 : Ref sig .tc := ⟨.hbm, 85, rfl⟩
abbrev main_v61_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, arg1.toNat, c18_i32.toNat]

def cc0_transform_2 (i : grid0.Coords) : Fin 3 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, arg1.toNat, c21_i32.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== PrepRefIdeal.lean ====
abbrev S2x8448x2944 : Shape := ⟨3, ![2, 8448, 2944]⟩
abbrev S256 : Shape := ⟨1, ![256]⟩
abbrev S256x384 : Shape := ⟨2, ![256, 384]⟩
abbrev S128 : Shape := ⟨1, ![128]⟩
abbrev S128x512 : Shape := ⟨2, ![128, 512]⟩
abbrev S2x8448x256 : Shape := ⟨3, ![2, 8448, 256]⟩
abbrev S2x8448x128 : Shape := ⟨3, ![2, 8448, 128]⟩
abbrev S2x8448x32 : Shape := ⟨3, ![2, 8448, 32]⟩
abbrev S_ : Shape := ⟨0, ![]⟩
abbrev S2x8448 : Shape := ⟨2, ![2, 8448]⟩
abbrev S2x8448x1 : Shape := ⟨3, ![2, 8448, 1]⟩
abbrev S1x1x256 : Shape := ⟨3, ![1, 1, 256]⟩
abbrev S2x8448x384 : Shape := ⟨3, ![2, 8448, 384]⟩
abbrev S2x8448x4x96 : Shape := ⟨4, ![2, 8448, 4, 96]⟩
abbrev S1x1x128 : Shape := ⟨3, ![1, 1, 128]⟩
abbrev S2x8448x512 : Shape := ⟨3, ![2, 8448, 512]⟩
abbrev S2x8448x4x128 : Shape := ⟨4, ![2, 8448, 4, 128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S2x8192x4x96 : Shape := ⟨4, ![2, 8192, 4, 96]⟩
abbrev S2x256x4x96 : Shape := ⟨4, ![2, 256, 4, 96]⟩
abbrev S2x8192x4x64 : Shape := ⟨4, ![2, 8192, 4, 64]⟩
abbrev S2x8192x4x32 : Shape := ⟨4, ![2, 8192, 4, 32]⟩
abbrev S8192x1x16 : Shape := ⟨3, ![8192, 1, 16]⟩
abbrev S2x8192x4x16 : Shape := ⟨4, ![2, 8192, 4, 16]⟩
abbrev S1x8192x1x16 : Shape := ⟨4, ![1, 8192, 1, 16]⟩
abbrev S2x8192x32 : Shape := ⟨3, ![2, 8192, 32]⟩
abbrev S2x8192x16 : Shape := ⟨3, ![2, 8192, 16]⟩
abbrev S1x8192x16 : Shape := ⟨3, ![1, 8192, 16]⟩
abbrev S2x256x32 : Shape := ⟨3, ![2, 256, 32]⟩
abbrev S2x8448x1x32 : Shape := ⟨4, ![2, 8448, 1, 32]⟩
abbrev S2x8448x4x32 : Shape := ⟨4, ![2, 8448, 4, 32]⟩
abbrev S2x8448x4x64 : Shape := ⟨4, ![2, 8448, 4, 64]⟩
abbrev S2x8448x4x1 : Shape := ⟨4, ![2, 8448, 4, 1]⟩
abbrev S2x8448x4x63 : Shape := ⟨4, ![2, 8448, 4, 63]⟩
abbrev S2x4x8448x128 : Shape := ⟨4, ![2, 4, 8448, 128]⟩

abbrev nBuf : Space → Nat
  | .hbm => 147
  | .vmem => 0
  | .smem => 0
  | _ => 0

abbrev hbmTy0_0 (i : Nat) : BufTy := match i % 128 with
  | 0 => ⟨S2x8448x2944, .f32⟩
  | 1 => ⟨S256, .f32⟩
  | 2 => ⟨S256x384, .f32⟩
  | 3 => ⟨S128, .f32⟩
  | 4 => ⟨S128x512, .f32⟩
  | 5 => ⟨S2x8448x256, .f32⟩
  | 6 => ⟨S2x8448x128, .f32⟩
  | 7 => ⟨S2x8448x32, .f32⟩
  | 8 => ⟨S2x8448x256, .f32⟩
  | 9 => ⟨S_, .f32⟩
  | 10 => ⟨S2x8448, .f32⟩
  | 11 => ⟨S2x8448x1, .f32⟩
  | 12 => ⟨S_, .f32⟩
  | 13 => ⟨S2x8448x1, .f32⟩
  | 14 => ⟨S2x8448x1, .f32⟩
  | 15 => ⟨S_, .f32⟩
  | 16 => ⟨S2x8448x1, .f32⟩
  | 17 => ⟨S2x8448x1, .f32⟩
  | 18 => ⟨S2x8448x1, .f32⟩
  | 19 => ⟨S2x8448x256, .f32⟩
  | 20 => ⟨S2x8448x256, .f32⟩
  | 21 => ⟨S1x1x256, .f32⟩
  | 22 => ⟨S2x8448x256, .f32⟩
  | 23 => ⟨S2x8448x256, .f32⟩
  | 24 => ⟨S2x8448x384, .f32⟩
  | 25 => ⟨S2x8448x4x96, .f32⟩
  | 26 => ⟨S2x8448x128, .f32⟩
  | 27 => ⟨S_, .f32⟩
  | 28 => ⟨S2x8448, .f32⟩
  | 29 => ⟨S2x8448x1, .f32⟩
  | 30 => ⟨S_, .f32⟩
  | 31 => ⟨S2x8448x1, .f32⟩
  | 32 => ⟨S2x8448x1, .f32⟩
  | 33 => ⟨S_, .f32⟩
  | 34 => ⟨S2x8448x1, .f32⟩
  | 35 => ⟨S2x8448x1, .f32⟩
  | 36 => ⟨S2x8448x1, .f32⟩
  | 37 => ⟨S2x8448x128, .f32⟩
  | 38 => ⟨S2x8448x128, .f32⟩
  | 39 => ⟨S1x1x128, .f32⟩
  | 40 => ⟨S2x8448x128, .f32⟩
  | 41 => ⟨S2x8448x128, .f32⟩
  | 42 => ⟨S2x8448x512, .f32⟩
  | 43 => ⟨S2x8448x4x128, .f32⟩
  | 44 => ⟨S128, .f32⟩
  | 45 => ⟨S128x64, .f32⟩
  | 46 => ⟨S8192, .f32⟩
  | 47 => ⟨S64, .f32⟩
  | 48 => ⟨S1x64, .f32⟩
  | 49 => ⟨S128x64, .f32⟩
  | 50 => ⟨S8192, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8192x1, .f32⟩
  | 66 => ⟨S1x8, .f32⟩
  | 67 => ⟨S8192x8, .f32⟩
  | 68 => ⟨S8192x8, .f32⟩
  | 69 => ⟨S8192x8, .f32⟩
  | 70 => ⟨S8192x1, .f32⟩
  | 71 => ⟨S1x8, .f32⟩
  | 72 => ⟨S8192x8, .f32⟩
  | 73 => ⟨S8192x8, .f32⟩
  | 74 => ⟨S8192x8, .f32⟩
  | 75 => ⟨S8192x16, .f32⟩
  | 76 => ⟨S8192x16, .f32⟩
  | 77 => ⟨S8192x16, .f32⟩
  | 78 => ⟨S2x8192x4x96, .f32⟩
  | 79 => ⟨S2x256x4x96, .f32⟩
  | 80 => ⟨S2x8192x4x64, .f32⟩
  | 81 => ⟨S2x8192x4x32, .f32⟩
  | 82 => ⟨S8192x1x16, .f32⟩
  | 83 => ⟨S8192x1x16, .f32⟩
  | 84 => ⟨S2x8192x4x16, .f32⟩
  | 85 => ⟨S2x8192x4x16, .f32⟩
  | 86 => ⟨S1x8192x1x16, .f32⟩
  | 87 => ⟨S2x8192x4x16, .f32⟩
  | 88 => ⟨S2x8192x4x16, .f32⟩
  | 89 => ⟨S1x8192x1x16, .f32⟩
  | 90 => ⟨S2x8192x4x16, .f32⟩
  | 91 => ⟨S2x8192x4x16, .f32⟩
  | 92 => ⟨S2x8192x4x16, .f32⟩
  | 93 => ⟨S1x8192x1x16, .f32⟩
  | 94 => ⟨S2x8192x4x16, .f32⟩
  | 95 => ⟨S2x8192x4x16, .f32⟩
  | 96 => ⟨S1x8192x1x16, .f32⟩
  | 97 => ⟨S2x8192x4x16, .f32⟩
  | 98 => ⟨S2x8192x4x16, .f32⟩
  | 99 => ⟨S2x8192x4x16, .f32⟩
  | 100 => ⟨S2x8192x4x32, .f32⟩
  | 101 => ⟨S2x8192x4x96, .f32⟩
  | 102 => ⟨S2x8448x4x96, .f32⟩
  | 103 => ⟨S2x8192x32, .f32⟩
  | 104 => ⟨S2x8192x16, .f32⟩
  | 105 => ⟨S2x8192x16, .f32⟩
  | 106 => ⟨S1x8192x16, .f32⟩
  | 107 => ⟨S2x8192x16, .f32⟩
  | 108 => ⟨S2x8192x16, .f32⟩
  | 109 => ⟨S1x8192x16, .f32⟩
  | 110 => ⟨S2x8192x16, .f32⟩
  | 111 => ⟨S2x8192x16, .f32⟩
  | 112 => ⟨S2x8192x16, .f32⟩
  | 113 => ⟨S1x8192x16, .f32⟩
  | 114 => ⟨S2x8192x16, .f32⟩
  | 115 => ⟨S2x8192x16, .f32⟩
  | 116 => ⟨S1x8192x16, .f32⟩
  | 117 => ⟨S2x8192x16, .f32⟩
  | 118 => ⟨S2x8192x16, .f32⟩
  | 119 => ⟨S2x8192x16, .f32⟩
  | 120 => ⟨S2x8192x32, .f32⟩
  | 121 => ⟨S2x256x32, .f32⟩
  | 122 => ⟨S2x8448x32, .f32⟩
  | 123 => ⟨S2x8448x1x32, .f32⟩
  | 124 => ⟨S2x8448x4x32, .f32⟩
  | 125 => ⟨S_, .f32⟩
  | 126 => ⟨S2x8448x4x96, .f32⟩
  | 127 => ⟨S2x8448x4x96, .f32⟩
  | _ => ⟨S2x8448x2944, .f32⟩

abbrev hbmTy0_1 (i : Nat) : BufTy := match i % 128 with
  | 0 => ⟨S_, .f32⟩
  | 1 => ⟨S2x8448x4x32, .f32⟩
  | 2 => ⟨S2x8448x4x128, .f32⟩
  | 3 => ⟨S2x8448x4x64, .f32⟩
  | 4 => ⟨S_, .f32⟩
  | 5 => ⟨S2x8448x4x32, .f32⟩
  | 6 => ⟨S2x8448x4x128, .f32⟩
  | 7 => ⟨S2x8448x4x64, .f32⟩
  | 8 => ⟨S_, .f32⟩
  | 9 => ⟨S2x8448x4x1, .f32⟩
  | 10 => ⟨S_, .f32⟩
  | 11 => ⟨S2x8448x4x63, .f32⟩
  | 12 => ⟨S2x8448x4x128, .f32⟩
  | 13 => ⟨S2x4x8448x128, .f32⟩
  | 14 => ⟨S2x4x8448x128, .bf16⟩
  | 15 => ⟨S2x4x8448x128, .f32⟩
  | 16 => ⟨S2x4x8448x128, .bf16⟩
  | 17 => ⟨S2x4x8448x128, .f32⟩
  | 18 => ⟨S2x4x8448x128, .bf16⟩
  | _ => ⟨S2x8448x2944, .f32⟩

abbrev hbmTy (i : Nat) : BufTy := match i / 128 with
  | 0 => hbmTy0_0 i
  | 1 => hbmTy0_1 i
  | _ => ⟨S2x8448x2944, .f32⟩

abbrev bufTy : (tb : Table) → Fin (tcTables nBuf tb) → BufTy
  | .hbm, ⟨i, _⟩ => hbmTy i
  | _, _ => ⟨S2x8448x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_cst_9 : Ref sig .tc := ⟨.hbm, 125, rfl⟩
abbrev main_v110 : Ref sig .tc := ⟨.hbm, 126, rfl⟩
abbrev main_v111 : Ref sig .tc := ⟨.hbm, 127, rfl⟩
abbrev main_cst_10 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_11 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_12 : Ref sig .tc := ⟨.hbm, 136, rfl⟩
abbrev main_v118 : Ref sig .tc := ⟨.hbm, 137, rfl⟩
abbrev main_cst_13 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩

abbrev nD : Nat := 1
abbrev τ : Topo := Topo.v7x

variable {F : FTy → Type} [FloatOps F]
-- ==== Proof.AttnHead.lean ====
module

public import proofs.«01_k».proof.Proof.Gen.AttnIdeal.Value
public import Idealize.ShloMosaic.Lib.Pipeline.ValueKit
public import Idealize.ShloMosaic.Lib.Pipeline.ReadBack

@[expose] public section

set_option maxRecDepth 16384

noncomputable section

/-! One head of one key block of the attention kernel, read at an index. -/

namespace Cert.AttnIdeal.Head

open Idealize.ShloMosaic Idealize.SL.Sem Idealize.ShloMosaic.TcCoe
open Cert.AttnIdeal Cert.AttnIdeal.Gen

/-- The score of key `c` of the block for query row `r`, head `h`. -/
def score (q : Vec Ideal S1x4x1024x128 .bf16) (k : Vec Ideal S1x4x768x128 .bf16) (h : Fin 4) (r : Fin 1024) (c : Fin 768) : EReal :=
  ∑ d : Fin 128, q (ix4 0 h r d) * k (ix4 0 h c d)

/-- The running maximum after the block. -/
def newM (q : Vec Ideal S1x4x1024x128 .bf16) (k : Vec Ideal S1x4x768x128 .bf16) (S : Vec Ideal S4x1024x128 .f32) :
    Vec Ideal S4x1024x128 .f32 :=
  fun j => max (S j) ((Finset.univ : Finset (Fin 768)).fold max ⊥ (score q k (j 0) (j 1)))

/-- The accumulator after the block. -/
def newA (q : Vec Ideal S1x4x1024x128 .bf16) (k v : Vec Ideal S1x4x768x128 .bf16) (S A : Vec Ideal S4x1024x128 .f32) :
    Vec Ideal S4x1024x128 .f32 :=
  fun j => Ideal.exp (S j - newM q k S j) * A j
    + ∑ c : Fin 768, Ideal.exp (score q k (j 0) (j 1) c
        - newM q k S (ix3 (j 0) (j 1) ⟨c.val % 128, Nat.mod_lt _ (by decide)⟩)) * v (ix4 0 (j 0) c (j 2))

/-- The pattern of minus infinity stands for the bottom element. -/
theorem ofBits_ninf : Ideal.ofBits .f32 4286578688#32 = ⊥ := by simp [Ideal.ofBits, Ideal.ieee]

/-- The block product of one head. -/
theorem pay5_apply (q : Vec Ideal S1x1x1024x128 .bf16) (k : Vec Ideal S1x1x768x128 .bf16) (r : Fin 1024) (c : Fin 768) :
    k0_pay5 (F := Ideal) q k (ix2 r c) = ∑ d : Fin 128, q (ix4 0 0 r d) * k (ix4 0 0 c d) := by
  unfold k0_pay5
  pointwise

/-- The new maximum of one head. -/
theorem pay7_apply (q : Vec Ideal S1x1x1024x128 .bf16) (k : Vec Ideal S1x1x768x128 .bf16) (m : Vec Ideal S1x1024x128 .f32)
    (r : Fin 1024) (l : Fin 128) :
    k0_pay7 (F := Ideal) q k m (ix2 r l) = max (m (ix3 0 r l))
      ((Finset.univ : Finset (Fin 768)).fold max ⊥ fun c => ∑ d : Fin 128, q (ix4 0 0 r d) * k (ix4 0 0 c d)) := by
  have e : k0_pay7 (F := Ideal) q k m (ix2 r l) = max (m (ix3 0 r l))
      ((Finset.univ : Finset (Fin 768)).fold max ⊥ fun c => k0_pay5 (F := Ideal) q k (ix2 r c)) := by
    unfold k0_pay7 k0_pay6
    generalize k0_pay5 (F := Ideal) q k = s
    pointwise
    rw [ofBits_ninf]
  simpa only [pay5_apply] using e

/-- The new accumulator of one head. -/
theorem pay8_apply (q : Vec Ideal S1x1x1024x128 .bf16) (k v : Vec Ideal S1x1x768x128 .bf16) (m a : Vec Ideal S1x1024x128 .f32)
    (r : Fin 1024) (l : Fin 128) :
    k0_pay8 (F := Ideal) q k m a v (ix3 0 r l) = Ideal.exp (m (ix3 0 r l) - k0_pay7 q k m (ix2 r l)) * a (ix3 0 r l)
      + ∑ c : Fin 768, Ideal.exp (k0_pay5 q k (ix2 r c)
          - k0_pay7 q k m (ix2 r ⟨c.val % 128, Nat.mod_lt _ (by decide)⟩)) * v (ix4 0 0 c l) := by
  unfold k0_pay8 k0_pay6
  generalize k0_pay5 (F := Ideal) q k = s
  generalize k0_pay7 (F := Ideal) q k m = mn
  pointwise
  refine congrArg (_ + ·) (Finset.sum_congr rfl fun c _ => ?_)
  refine congrArg (fun e => Ideal.exp (s (ix2 r c) - e) * _) ?_
  have hc := c.isLt
  split_ifs <;> (refine congrArg (fun e => mn (ix2 r e)) (Fin.ext ?_); dsimp only; omega)

variable {q : Vec Ideal S1x4x1024x128 .bf16} {k v : Vec Ideal S1x4x768x128 .bf16} {S A : Vec Ideal S4x1024x128 .f32}
  {q' : Vec Ideal S1x1x1024x128 .bf16} {k' v' : Vec Ideal S1x1x768x128 .bf16} {S' A' : Vec Ideal S1x1024x128 .f32}

/-- The new maximum of head `h`, from the head's slices of the blocks. -/
theorem headM (h : Fin 4) (hq : ∀ r d, q' (ix4 0 0 r d) = q (ix4 0 h r d)) (hk : ∀ r d, k' (ix4 0 0 r d) = k (ix4 0 h r d))
    (hS : ∀ r l, S' (ix3 0 r l) = S (ix3 h r l)) (r : Fin 1024) (l : Fin 128) :
    k0_pay7 (F := Ideal) q' k' S' (ix2 r l) = newM q k S (ix3 h r l) := by
  rw [pay7_apply, hS]
  simp only [hq, hk]
  rfl

/-- The new accumulator of head `h`, from the head's slices of the blocks. -/
theorem headA (h : Fin 4) (hq : ∀ r d, q' (ix4 0 0 r d) = q (ix4 0 h r d)) (hk : ∀ r d, k' (ix4 0 0 r d) = k (ix4 0 h r d))
    (hS : ∀ r l, S' (ix3 0 r l) = S (ix3 h r l)) (hA : ∀ r l, A' (ix3 0 r l) = A (ix3 h r l))
    (hv : ∀ r d, v' (ix4 0 0 r d) = v (ix4 0 h r d)) (r : Fin 1024) (l : Fin 128) :
    k0_pay8 (F := Ideal) q' k' S' A' v' (ix3 0 r l) = newA q k v S A (ix3 h r l) := by
  rw [pay8_apply]
  simp only [headM h hq hk hS, hS, hA, hv, pay5_apply, hq, hk]
  rfl

end Cert.AttnIdeal.Head
-- ==== Proof.AttnBlock.lean ====
module

public import proofs.«01_k».proof.Proof.AttnHead

@[expose] public section

set_option maxRecDepth 16384

noncomputable section

/-! What the scratch buffers and the result block hold after one grid point of the attention kernel. -/

namespace Cert.AttnIdeal.Head

open Idealize.ShloMosaic Idealize.SL.Sem Idealize.ShloMosaic.TcCoe
open Cert.AttnIdeal Cert.AttnIdeal.Gen

variable {q : Vec Ideal S1x4x1024x128 .bf16} {k v : Vec Ideal S1x4x768x128 .bf16} {S A : Vec Ideal S4x1024x128 .f32}
  {q' : Vec Ideal S1x1x1024x128 .bf16} {k' v' : Vec Ideal S1x1x768x128 .bf16} {S' A' : Vec Ideal S1x1024x128 .f32}

/-- The store of the maximum adds a leading axis of size one. -/
theorem pay9_apply (p : Vec Ideal S1024x128 .f32) (r : Fin 1024) (l : Fin 128) :
    k0_pay9 (F := Ideal) p (ix3 0 r l) = p (ix2 r l) := by
  unfold k0_pay9
  pointwise

/-- Head `n`'s slab of the four heads. -/
def slabR (n : ℕ) (inb : ∀ a, (![n, 0, 0] : Fin 3 → ℕ) a + (![1, 1024, 128] : Fin 3 → ℕ) a ≤ S4x1024x128.size a) : Rect S4x1024x128 :=
  Rect.unit ![n, 0, 0] ![1, 1024, 128] inb

/-- A vector that is head `n` of `G` is `G` at the places of the slab. -/
theorem slab_emb {G : Vec Ideal S4x1024x128 .f32} (n : ℕ) (hn : n < 4)
    (inb : ∀ a, (![n, 0, 0] : Fin 3 → ℕ) a + (![1, 1024, 128] : Fin 3 → ℕ) a ≤ S4x1024x128.size a)
    (w : Vec Ideal S1x1024x128 .f32) (H : ∀ r l, w (ix3 0 r l) = G (ix3 ⟨n, hn⟩ r l)) (x : S1x1024x128.Idx) :
    w x = G ((slabR n inb).emb x) := by
  obtain ⟨a, r, l, rfl⟩ : ∃ (a : Fin 1) (r : Fin 1024) (l : Fin 128), x = ix3 a r l :=
    ⟨x 0, x 1, x 2, by funext a; fin_cases a <;> rfl⟩
  obtain rfl : a = 0 := Subsingleton.elim _ _
  refine (H r l).trans (congrArg G ?_)
  funext b
  fin_cases b <;> apply Fin.ext
  · change n = n + 1 * 0; omega
  · change r.val = 0 + 1 * r.val; omega
  · change l.val = 0 + 1 * l.val; omega

/-- An index of head `n` lies in the slab. -/
theorem slab_mem (j : S4x1024x128.Idx) (n : ℕ)
    (inb : ∀ a, (![n, 0, 0] : Fin 3 → ℕ) a + (![1, 1024, 128] : Fin 3 → ℕ) a ≤ S4x1024x128.size a) (e : (j 0).val = n) :
    j ∈ (slabR n inb).set := by
  rw [slabR, Rect.mem_set_unit]
  intro a
  fin_cases a
  · change n ≤ (j 0).val ∧ (j 0).val < n + 1; omega
  · exact ⟨Nat.zero_le _, lt_of_lt_of_eq (j 1).isLt (Nat.zero_add _).symm⟩
  · exact ⟨Nat.zero_le _, lt_of_lt_of_eq (j 2).isLt (Nat.zero_add _).symm⟩

/-- The store of head `n`. -/
def slabP (n : ℕ) (inb : ∀ a, (![n, 0, 0] : Fin 3 → ℕ) a + (![1, 1024, 128] : Fin 3 → ℕ) a ≤ S4x1024x128.size a)
    (w : Vec Ideal S1x1024x128 .f32) : View.Piece (Elt Ideal) S4x1024x128 (.f32 : EltTy) := ⟨slabR n inb, w⟩

/-- Four stores of one head each, over any earlier stores, leave the array that each of them is a slab of. -/
theorem slabs {G : Vec Ideal S4x1024x128 .f32} {w0 w1 w2 w3 : Vec Ideal S1x1024x128 .f32}
    (L' : List (View.Piece (Elt Ideal) S4x1024x128 (.f32 : EltTy)))
    (H3 : ∀ r l, w3 (ix3 0 r l) = G (ix3 3 r l)) (H2 : ∀ r l, w2 (ix3 0 r l) = G (ix3 2 r l))
    (H1 : ∀ r l, w1 (ix3 0 r l) = G (ix3 1 r l)) (H0 : ∀ r l, w0 (ix3 0 r l) = G (ix3 0 r l)) :
    View.canon ([slabP 3 inb_S4x1024x128_S1x1024x128_3_0_0 w3, slabP 2 inb_S4x1024x128_S1x1024x128_2_0_0 w2,
      slabP 1 inb_S4x1024x128_S1x1024x128_1_0_0 w1, slabP 0 inb_S4x1024x128_S1x1024x128_0_0_0 w0] ++ L') = G := by
  funext j
  refine View.canon_append_of_piecesOf G L' _ ?_ j ?_
  · exact And.intro (slab_emb 3 (by decide) inb_S4x1024x128_S1x1024x128_3_0_0 w3 H3) (And.intro (slab_emb 2 (by decide) inb_S4x1024x128_S1x1024x128_2_0_0 w2 H2)
      (And.intro (slab_emb 1 (by decide) inb_S4x1024x128_S1x1024x128_1_0_0 w1 H1) (And.intro (slab_emb 0 (by decide) inb_S4x1024x128_S1x1024x128_0_0_0 w0 H0) trivial)))
  · have hj : (j 0).val < 4 := (j 0).isLt
    rcases (by omega : (j 0).val = 3 ∨ (j 0).val = 2 ∨ (j 0).val = 1 ∨ (j 0).val = 0) with e | e | e | e
    · exact ⟨slabP 3 inb_S4x1024x128_S1x1024x128_3_0_0 w3, List.mem_cons_self, slab_mem j 3 inb_S4x1024x128_S1x1024x128_3_0_0 e⟩
    · exact ⟨slabP 2 inb_S4x1024x128_S1x1024x128_2_0_0 w2, List.mem_cons_of_mem _ List.mem_cons_self, slab_mem j 2 inb_S4x1024x128_S1x1024x128_2_0_0 e⟩
    · exact ⟨slabP 1 inb_S4x1024x128_S1x1024x128_1_0_0 w1, List.mem_cons_of_mem _ (List.mem_cons_of_mem _ List.mem_cons_self), slab_mem j 1 inb_S4x1024x128_S1x1024x128_1_0_0 e⟩
    · exact ⟨slabP 0 inb_S4x1024x128_S1x1024x128_0_0_0 w0, List.mem_cons_of_mem _ (List.mem_cons_of_mem _ (List.mem_cons_of_mem _ List.mem_cons_self)), slab_mem j 0 inb_S4x1024x128_S1x1024x128_0_0_0 e⟩

variable (m : (ℓ : Loc nD τ sig) → Buf (Elt Ideal) ℓ)

/-- The maxima after a first block. -/
theorem maxA (c : Dev nD) (t : Fin cfg0.N) (h0 : t.val % 11 = 0) (h1 : ¬ t.val % 11 = 10) :
    (outsAt0 (F := Ideal) m c t.val t.isLt).2.1 = newM (X0_0 m c t) (iblk m c 1 t) (k0_pay3 (F := Ideal)) := by
  rw [outsAt0_A m c t h0 h1]
  frame_open
  simp (disch := decide) only [↓ View.readCov_skip, ↓ View.readCov_cons_toLoadRect, ↓ View.readCov_fill]
  frame_out
  generalize X0_0 m c t = q
  generalize (iblk m c 1 t) = k
  exact slabs [_]
    (fun r l => (pay9_apply _ r l).trans (headM 3 (by intro r d; pointwise) (by intro r d; pointwise) (by intro r d; pointwise) r l))
    (fun r l => (pay9_apply _ r l).trans (headM 2 (by intro r d; pointwise) (by intro r d; pointwise) (by intro r d; pointwise) r l))
    (fun r l => (pay9_apply _ r l).trans (headM 1 (by intro r d; pointwise) (by intro r d; pointwise) (by intro r d; pointwise) r l))
    (fun r l => (pay9_apply _ r l).trans (headM 0 (by intro r d; pointwise) (by intro r d; pointwise) (by intro r d; pointwise) r l))

/-- The accumulators after a first block. -/
theorem accA (c : Dev nD) (t : Fin cfg0.N) (h0 : t.val % 11 = 0) (h1 : ¬ t.val % 11 = 10) :
    (outsAt0 (F := Ideal) m c t.val t.isLt).2.2 = newA (X0_0 m c t) (iblk m c 1 t) (iblk m c 2 t) (k0_pay3 (F := Ideal)) (k0_pay4 (F := Ideal)) := by
  rw [outsAt0_A m c t h0 h1]
  frame_open
  simp (disch := decide) only [↓ View.readCov_skip, ↓ View.readCov_cons_toLoadRect, ↓ View.readCov_fill]
  frame_out
  generalize X0_0 m c t = q
  generalize (iblk m c 1 t) = k
  generalize (iblk m c 2 t) = v
  exact slabs [_]
    (fun r l => headA 3 (by intro r d; pointwise) (by intro r d; pointwise) (by intro r d; pointwise) (by intro r d; pointwise) (by intro r d; pointwise) r l)
    (fun r l => headA 2 (by intro r d; pointwise) (by intro r d; pointwise) (by intro r d; pointwise) (by intro r d; pointwise) (by intro r d; pointwise) r l)
    (fun r l => headA 1 (by intro r d; pointwise) (by intro r d; pointwise) (by intro r d; pointwise) (by intro r d; pointwise) (by intro r d; pointwise) r l)
    (fun r l => headA 0 (by intro r d; pointwise) (by intro r d; pointwise) (by intro r d; pointwise) (by intro r d; pointwise) (by intro r d; pointwise) r l)

/-- The maxima after an inner block. -/
theorem maxB (c : Dev nD) (t : Fin cfg0.N) (h0 : ¬ t.val % 11 = 0) (h1 : ¬ t.val % 11 = 10) :
    (outsAt0 (F := Ideal) m c t.val t.isLt).2.1 = newM (X0_0 m c t) (iblk m c 1 t) (outsAt0 m c (t.val - 1) (Nat.lt_of_le_of_lt (Nat.sub_le _ _) t.isLt)).2.1 := by
  rw [outsAt0_B m c t h0 h1]
  frame_open
  simp (disch := decide) only [↓ View.readCov_skip, ↓ View.readCov_cons_toLoadRect, ↓ View.readCov_fill]
  frame_out
  simp only [read_unread_whole]
  generalize X0_0 m c t = q
  generalize (iblk m c 1 t) = k
  generalize (outsAt0 m c (t.val - 1) _).2.1 = S
  exact slabs []
    (fun r l => (pay9_apply _ r l).trans (headM 3 (by intro r d; pointwise) (by intro r d; pointwise) (by intro r d; pointwise) r l))
    (fun r l => (pay9_apply _ r l).trans (headM 2 (by intro r d; pointwise) (by intro r d; pointwise) (by intro r d; pointwise) r l))
    (fun r l => (pay9_apply _ r l).trans (headM 1 (by intro r d; pointwise) (by intro r d; pointwise) (by intro r d; pointwise) r l))
    (fun r l => (pay9_apply _ r l).trans (headM 0 (by intro r d; pointwise) (by intro r d; pointwise) (by intro r d; pointwise) r l))

/-- The accumulators after an inner block. -/
theorem accB (c : Dev nD) (t : Fin cfg0.N) (h0 : ¬ t.val % 11 = 0) (h1 : ¬ t.val % 11 = 10) :
    (outsAt0 (F := Ideal) m c t.val t.isLt).2.2 = newA (X0_0 m c t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_B m c t h0 h1]
  frame_open
  simp (disch := decide) only [↓ View.readCov_skip, ↓ View.readCov_cons_toLoadRect, ↓ View.readCov_fill]
  frame_out
  simp only [read_unread_whole]
  generalize X0_0 m c t = q
  generalize (iblk m c 1 t) = k
  generalize (iblk m c 2 t) = v
  generalize (outsAt0 m c (t.val - 1) _).2.1 = S
  generalize (outsAt0 m c (t.val - 1) _).2.2 = A
  exact slabs []
    (fun r l => headA 3 (by intro r d; pointwise) (by intro r d; pointwise) (by intro r d; pointwise) (by intro r d; pointwise) (by intro r d; pointwise) r l)
    (fun r l => headA 2 (by intro r d; pointwise) (by intro r d; pointwise) (by intro r d; pointwise) (by intro r d; pointwise) (by intro r d; pointwise) r l)
    (fun r l => headA 1 (by intro r d; pointwise) (by intro r d; pointwise) (by intro r d; pointwise) (by intro r d; pointwise) (by intro r d; pointwise) r l)
    (fun r l => headA 0 (by intro r d; pointwise) (by intro r d; pointwise) (by intro r d; pointwise) (by intro r d; pointwise) (by intro r d; pointwise) r l)

/-- The maxima after a last block. -/
theorem maxC (c : Dev nD) (t : Fin cfg0.N) (h0 : ¬ t.val % 11 = 0) (h1 : t.val % 11 = 10) :
    (outsAt0 (F := Ideal) m c t.val t.isLt).2.1 = newM (X0_0 m c t) (iblk m c 1 t) (outsAt0 m c (t.val - 1) (Nat.lt_of_le_of_lt (Nat.sub_le _ _) t.isLt)).2.1 := by
  rw [outsAt0_C m c t h0 h1]
  frame_open
  simp (disch := decide) only [↓ View.readCov_skip, ↓ View.readCov_cons_toLoadRect, ↓ View.readCov_fill]
  frame_out
  simp only [read_unread_whole]
  generalize X0_0 m c t = q
  generalize (iblk m c 1 t) = k
  generalize (outsAt0 m c (t.val - 1) _).2.1 = S
  exact slabs []
    (fun r l => (pay9_apply _ r l).trans (headM 3 (by intro r d; pointwise) (by intro r d; pointwise) (by intro r d; pointwise) r l))
    (fun r l => (pay9_apply _ r l).trans (headM 2 (by intro r d; pointwise) (by intro r d; pointwise) (by intro r d; pointwise) r l))
    (fun r l => (pay9_apply _ r l).trans (headM 1 (by intro r d; pointwise) (by intro r d; pointwise) (by intro r d; pointwise) r l))
    (fun r l => (pay9_apply _ r l).trans (headM 0 (by intro r d; pointwise) (by intro r d; pointwise) (by intro r d; pointwise) r l))

/-- The accumulators after a last block. -/
theorem accC (c : Dev nD) (t : Fin cfg0.N) (h0 : ¬ t.val % 11 = 0) (h1 : t.val % 11 = 10) :
    (outsAt0 (F := Ideal) m c t.val t.isLt).2.2 = newA (X0_0 m c t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_C m c t h0 h1]
  frame_open
  simp (disch := decide) only [↓ View.readCov_skip, ↓ View.readCov_cons_toLoadRect, ↓ View.readCov_fill]
  frame_out
  simp only [read_unread_whole]
  generalize X0_0 m c t = q
  generalize (iblk m c 1 t) = k
  generalize (iblk m c 2 t) = v
  generalize (outsAt0 m c (t.val - 1) _).2.1 = S
  generalize (outsAt0 m c (t.val - 1) _).2.2 = A
  exact slabs []
    (fun r l => headA 3 (by intro r d; pointwise) (by intro r d; pointwise) (by intro r d; pointwise) (by intro r d; pointwise) (by intro r d; pointwise) r l)
    (fun r l => headA 2 (by intro r d; pointwise) (by intro r d; pointwise) (by intro r d; pointwise) (by intro r d; pointwise) (by intro r d; pointwise) r l)
    (fun r l => headA 1 (by intro r d; pointwise) (by intro r d; pointwise) (by intro r d; pointwise) (by intro r d; pointwise) (by intro r d; pointwise) r l)
    (fun r l => headA 0 (by intro r d; pointwise) (by intro r d; pointwise) (by intro r d; pointwise) (by intro r d; pointwise) (by intro r d; pointwise) r l)

/-- Equal coordinates give equal indices. -/
theorem ix3_congr {n0 n1 n2 : ℕ} {a a' : Fin n0} {b b' : Fin n1} {c c' : Fin n2} (h0 : a = a') (h1 : b = b') (h2 : c = c') :
    ix3 a b c = ix3 a' b' c' := by rw [h0, h1, h2]

/-- The quotient of the last block: head `l / 64`, its lane `l % 64` over its lane 64. -/
theorem pay2_apply (a b c d : Vec Ideal S1x1024x128 .f32) (G : Vec Ideal S4x1024x128 .f32)
    (H0 : ∀ r l, a (ix3 0 r l) = G (ix3 0 r l)) (H1 : ∀ r l, b (ix3 0 r l) = G (ix3 1 r l))
    (H2 : ∀ r l, c (ix3 0 r l) = G (ix3 2 r l)) (H3 : ∀ r l, d (ix3 0 r l) = G (ix3 3 r l)) (r : Fin 1024) (l : Fin 256) :
    k0_pay2 (F := Ideal) a b c d (ix3 0 r l)
      = Ideal.div (G (ix3 ⟨l.val / 64, by omega⟩ r ⟨l.val % 64, by omega⟩)) (G (ix3 ⟨l.val / 64, by omega⟩ r 64)) := by
  have hl := l.isLt
  unfold k0_pay2
  pointwise
  simp only [H0, H1, H2, H3]
  split_ifs
  all_goals
    refine congrArg₂ Ideal.div (congrArg G ?_) (congrArg G ?_)
    · refine ix3_congr ?_ rfl ?_ <;> (apply Fin.ext; simp; omega)
    · refine ix3_congr ?_ rfl rfl; apply Fin.ext; simp; omega

/-- The result block after a last key block. -/
theorem outC (c : Dev nD) (t : Fin cfg0.N) (h0 : ¬ t.val % 11 = 0) (h1 : t.val % 11 = 10) (r : Fin 1024) (l : Fin 256) :
    (outsAt0 (F := Ideal) m c t.val t.isLt).1 (ix3 0 r l)
      = Ideal.div ((outsAt0 (F := Ideal) m c t.val t.isLt).2.2 (ix3 ⟨l.val / 64, by omega⟩ r ⟨l.val % 64, by omega⟩))
          ((outsAt0 (F := Ideal) m c t.val t.isLt).2.2 (ix3 ⟨l.val / 64, by omega⟩ r 64)) := by
  rw [accC m c t h0 h1, outsAt0_C m c t h0 h1]
  frame_open
  simp (disch := decide) only [↓ View.readCov_skip, ↓ View.readCov_cons_toLoadRect, ↓ View.readCov_fill]
  frame_out
  simp only [read_unread_whole]
  generalize X0_0 m c t = q
  generalize (iblk m c 1 t) = k
  generalize (iblk m c 2 t) = v
  generalize (outsAt0 m c (t.val - 1) _).2.1 = S
  generalize (outsAt0 m c (t.val - 1) _).2.2 = A
  exact pay2_apply _ _ _ _ _
    (fun r l => headA 0 (by intro r d; pointwise) (by intro r d; pointwise) (by intro r d; pointwise) (by intro r d; pointwise) (by intro r d; pointwise) r l)
    (fun r l => headA 1 (by intro r d; pointwise) (by intro r d; pointwise) (by intro r d; pointwise) (by intro r d; pointwise) (by intro r d; pointwise) r l)
    (fun r l => headA 2 (by intro r d; pointwise) (by intro r d; pointwise) (by intro r d; pointwise) (by intro r d; pointwise) (by intro r d; pointwise) r l)
    (fun r l => headA 3 (by intro r d; pointwise) (by intro r d; pointwise) (by intro r d; pointwise) (by intro r d; pointwise) (by intro r d; pointwise) r l) r l

end Cert.AttnIdeal.Head
-- ==== Proof.Softmax.lean ====
module

public import Idealize.ShloMosaic.Lib.Pipeline.ValueKit

@[expose] public section

noncomputable section

/-! The softmax taken block by block: a running maximum and a running sum, rescaled at every block, are the maximum and
the sum over all the keys seen so far. Scores are real numbers; the summed values may be any extended reals. -/

namespace Cert.Softmax

open Idealize.ShloMosaic

/-- The maximum of the first `n` scores. -/
def supN (s : ℕ → EReal) (n : ℕ) : EReal := (Finset.range n).sup s

/-- The sum of the first `n` values, weighted by the exponentials of the scores less `M`. -/
def sumN (s v : ℕ → EReal) (n : ℕ) (M : EReal) : EReal := ∑ i ∈ Finset.range n, Ideal.exp (s i - M) * v i

/-- A fold of an operation that is the maximum is the fold of the maximum. -/
theorem fold_op {ι : Type} (S : Finset ι) (op : EReal → EReal → EReal) [Std.Commutative op] [Std.Associative op]
    (h : ∀ a b, op a b = max a b) (b : EReal) (f : ι → EReal) : S.fold op b f = S.fold max b f := by
  obtain rfl : op = max := funext fun a => funext fun b => h a b
  rfl

/-- The maximum of `b` and of `n` numbers. -/
def foldMax {n : ℕ} (b : EReal) (f : Fin n → EReal) : EReal := (Finset.univ : Finset (Fin n)).fold max b f

/-- The maximum of no score. -/
theorem supN_zero (s : ℕ → EReal) : supN s 0 = ⊥ := rfl

/-- The sum of no value. -/
theorem sumN_zero (s v : ℕ → EReal) (M : EReal) : sumN s v 0 M = 0 := rfl

/-- The maximum over `w` more scores. -/
theorem supN_add (s : ℕ → EReal) (a w : ℕ) :
    max (supN s a) ((Finset.univ : Finset (Fin w)).fold max ⊥ fun c => s (a + c.val)) = supN s (a + w) := by
  change max (supN s a) ((Finset.univ : Finset (Fin w)).sup fun c => s (a + c.val)) = supN s (a + w)
  apply le_antisymm
  · refine max_le (Finset.sup_mono (Finset.range_mono (by omega))) (Finset.sup_le fun c _ => ?_)
    exact Finset.le_sup (f := s) (Finset.mem_range.mpr (by have := c.isLt; omega))
  · refine Finset.sup_le fun i hi => ?_
    rw [Finset.mem_range] at hi
    by_cases h : i < a
    · exact le_max_of_le_left (Finset.le_sup (f := s) (Finset.mem_range.mpr h))
    · have e : s i = (fun c : Fin w => s (a + c.val)) ⟨i - a, by omega⟩ := by
        change s i = s (a + (i - a)); congr 1; omega
      rw [e]
      exact le_max_of_le_right (Finset.le_sup (f := fun c : Fin w => s (a + c.val)) (Finset.mem_univ _))

/-- The maximum of real scores, at least one, is real. -/
theorem supN_real (r : ℕ → ℝ) (n : ℕ) (h : 0 < n) : ∃ x : ℝ, supN (fun i => (r i : EReal)) n = (x : EReal) := by
  obtain ⟨i, _, e⟩ := Finset.exists_mem_eq_sup (Finset.range n) (by simpa using h.ne') (fun i => (r i : EReal))
  exact ⟨r i, e⟩

/-- A nonnegative real factor goes into a sum of extended reals. -/
theorem mul_sum_real (x : ℝ) (hx : 0 ≤ x) (S : Finset ℕ) (f : ℕ → EReal) :
    (x : EReal) * ∑ i ∈ S, f i = ∑ i ∈ S, (x : EReal) * f i := by
  classical
  induction S using Finset.induction_on with
  | empty => simp
  | insert a S ha ih =>
    rw [Finset.sum_insert ha, Finset.sum_insert ha,
      EReal.left_distrib_of_nonneg_of_ne_top (by exact_mod_cast hx) (EReal.coe_ne_top x), ih]

/-- A sum of real numbers, read among the extended reals. -/
theorem coe_sum (S : Finset ℕ) (f : ℕ → ℝ) : ∑ i ∈ S, (f i : EReal) = ((∑ i ∈ S, f i : ℝ) : EReal) := by
  classical
  induction S using Finset.induction_on with
  | empty => simp
  | insert a S ha ih => rw [Finset.sum_insert ha, Finset.sum_insert ha, EReal.coe_add, ih]

/-- A rescaled sum plus the sum over `w` more keys is the sum over all of them. -/
theorem sumN_add (r : ℕ → ℝ) (v : ℕ → EReal) (a w : ℕ) (hw : 0 < w) :
    Ideal.exp (supN (fun i => (r i : EReal)) a - supN (fun i => (r i : EReal)) (a + w))
        * sumN (fun i => (r i : EReal)) v a (supN (fun i => (r i : EReal)) a)
      + ∑ c : Fin w, Ideal.exp ((r (a + c.val) : EReal) - supN (fun i => (r i : EReal)) (a + w)) * v (a + c.val)
      = sumN (fun i => (r i : EReal)) v (a + w) (supN (fun i => (r i : EReal)) (a + w)) := by
  obtain ⟨y, hy⟩ := supN_real r (a + w) (by omega)
  have e : Ideal.exp (supN (fun i => (r i : EReal)) a - supN (fun i => (r i : EReal)) (a + w))
        * sumN (fun i => (r i : EReal)) v a (supN (fun i => (r i : EReal)) a)
      = sumN (fun i => (r i : EReal)) v a (supN (fun i => (r i : EReal)) (a + w)) := by
    rcases Nat.eq_zero_or_pos a with rfl | ha
    · simp [sumN_zero]
    · obtain ⟨x, hx⟩ := supN_real r a ha
      rw [hx, hy, ← EReal.coe_sub, Ideal.exp_coe, sumN, sumN, mul_sum_real _ (Real.exp_pos _).le]
      refine Finset.sum_congr rfl fun i _ => ?_
      rw [← mul_assoc, ← EReal.coe_sub, ← EReal.coe_sub, Ideal.exp_coe, Ideal.exp_coe, ← EReal.coe_mul, ← Real.exp_add]
      congr 3; ring
  rw [e, sumN, sumN, Finset.sum_range_add, ← Fin.sum_univ_eq_sum_range
    (fun c => Ideal.exp ((r (a + c) : EReal) - supN (fun i => (r i : EReal)) (a + w)) * v (a + c)) w]

/-- The quotient of the weighted sum by the weights' sum is the sum of the values times the normalised weights. -/
theorem div_sumN (r : ℕ → ℝ) (v : ℕ → EReal) (n : ℕ) (hn : 0 < n) (M : EReal) (hM : supN (fun i => (r i : EReal)) n = M) :
    Ideal.div (sumN (fun i => (r i : EReal)) v n M) (sumN (fun i => (r i : EReal)) (fun _ => 1) n M)
      = ∑ i ∈ Finset.range n, v i * Ideal.div (Ideal.exp ((r i : EReal) - M))
          (∑ k ∈ Finset.range n, Ideal.exp ((r k : EReal) - M)) := by
  obtain ⟨y, hy⟩ := supN_real r n hn
  rw [hM] at hy
  subst hy
  have e1 : ∀ i, Ideal.exp ((r i : EReal) - (y : EReal)) = ((Real.exp (r i - y) : ℝ) : EReal) := fun i => by
    rw [← EReal.coe_sub, Ideal.exp_coe]
  have eL : ∑ k ∈ Finset.range n, Ideal.exp ((r k : EReal) - (y : EReal)) = ((∑ k ∈ Finset.range n, Real.exp (r k - y) : ℝ) : EReal) := by
    simp only [e1]
    exact coe_sum _ _
  have hL : 0 < ∑ k ∈ Finset.range n, Real.exp (r k - y) :=
    Finset.sum_pos (fun _ _ => Real.exp_pos _) (by simpa using hn.ne')
  have eD : sumN (fun i => (r i : EReal)) (fun _ => 1) n (y : EReal) = ((∑ k ∈ Finset.range n, Real.exp (r k - y) : ℝ) : EReal) := by
    rw [← eL, sumN]; simp only [mul_one]
  have h0 : ((∑ k ∈ Finset.range n, Real.exp (r k - y) : ℝ) : EReal) ≠ 0 := by exact_mod_cast hL.ne'
  rw [eD, eL]
  simp only [Ideal.div, if_neg h0, sumN, e1]
  rw [← EReal.coe_inv, mul_comm, mul_sum_real _ (inv_nonneg.mpr hL.le)]
  refine Finset.sum_congr rfl fun i _ => ?_
  rw [mul_comm, mul_assoc, mul_comm (v i), mul_comm (v i)]
  rw [← mul_assoc]

end Cert.Softmax
-- ==== Proof.AttnFold.lean ====
module

public import proofs.«01_k».proof.Proof.AttnBlock
public import proofs.«01_k».proof.Proof.Softmax

@[expose] public section

set_option maxRecDepth 16384

noncomputable section

/-! The scratch buffers after every grid point of the attention kernel, in the argument arrays. -/

namespace Cert.AttnIdeal.Head

open Idealize.ShloMosaic Idealize.SL.Sem Idealize.ShloMosaic.TcCoe
open Cert.AttnIdeal Cert.AttnIdeal.Gen Cert.Softmax

variable (m : (ℓ : Loc nD τ sig) → Buf (Elt Ideal) ℓ)

/-- The queries. -/
def Q (c : Dev nD) : Vec Ideal S2x4x8448x128 .bf16 := m ((c : Thread nD τ).loc main_arg0)
/-- The keys. -/
def K (c : Dev nD) : Vec Ideal S2x4x8448x128 .bf16 := m ((c : Thread nD τ).loc main_arg1)
/-- The values. -/
def W (c : Dev nD) : Vec Ideal S2x4x8448x128 .bf16 := m ((c : Thread nD τ).loc main_arg2)

/-- The block indices of the three input windows at grid point `t`. -/
theorem idx : ∀ t : Fin cfg0.N, (win0_0.index t = ![t.val / 88, 0, t.val / 11 % 8, 0]
    ∧ win0_1.index t = ![t.val / 88, 0, t.val % 11, 0]) ∧ win0_2.index t = ![t.val / 88, 0, t.val % 11, 0] :=
  (by decide +kernel : ∀ t : Fin grid0.N, _)

/-- The grid has 176 points. -/
theorem tlt (t : Fin cfg0.N) : t.val < 176 := lt_of_lt_of_eq t.isLt N_0

/-- A query block's entry in the query array. -/
theorem rdQ (c : Dev nD) (t : Fin cfg0.N) (h : Fin 4) (r : Fin 1024) (d : Fin 128) :
    X0_0 m c t (ix4 0 h r d) = Q m c (ix4 ⟨t.val / 88, by have := tlt t; omega⟩ h ⟨1024 * (t.val / 11 % 8) + r.val, by omega⟩ d) := by
  unfold X0_0 Pipeline.Window.fill
  rw [dif_pos (moved0_0 t _)]
  have e := (idx t).1.1
  unfold Q
  blk_ext [iblk, V, e]

/-- A key block's entry in the key array. -/
theorem rdK (c : Dev nD) (t : Fin cfg0.N) (h : Fin 4) (r : Fin 768) (d : Fin 128) :
    iblk m c 1 t (ix4 0 h r d) = K m c (ix4 ⟨t.val / 88, by have := tlt t; omega⟩ h ⟨768 * (t.val % 11) + r.val, by omega⟩ d) := by
  have e := (idx t).1.2
  unfold K
  blk_ext [iblk, V, e]

/-- A value block's entry in the value array. -/
theorem rdW (c : Dev nD) (t : Fin cfg0.N) (h : Fin 4) (r : Fin 768) (d : Fin 128) :
    iblk m c 2 t (ix4 0 h r d) = W m c (ix4 ⟨t.val / 88, by have := tlt t; omega⟩ h ⟨768 * (t.val % 11) + r.val, by omega⟩ d) := by
  have e := (idx t).2
  unfold W
  blk_ext [iblk, V, e]

/-- The score of key `i` for query row `R` of batch `b`, head `h`; zero past the last key. -/
def sc (c : Dev nD) (b : Fin 2) (h : Fin 4) (R : Fin 8448) (i : ℕ) : EReal :=
  if hi : i < 8448 then ∑ d : Fin 128, Q m c (ix4 b h R d) * K m c (ix4 b h ⟨i, hi⟩ d) else 0

/-- Lane `l` of value `i`; zero past the last key. -/
def vl (c : Dev nD) (b : Fin 2) (h : Fin 4) (l : Fin 128) (i : ℕ) : EReal :=
  if hi : i < 8448 then W m c (ix4 b h ⟨i, hi⟩ l) else 0

/-- A block's score is the score of the arrays. -/
theorem score_eq (c : Dev nD) (t : Fin cfg0.N) (h : Fin 4) (r : Fin 1024) (k : Fin 768) :
    score (X0_0 m c t) (iblk m c 1 t) h r k = sc m c ⟨t.val / 88, by have := tlt t; omega⟩ h ⟨1024 * (t.val / 11 % 8) + r.val, by omega⟩
      (768 * (t.val % 11) + k.val) := by
  unfold score sc
  rw [dif_pos (by omega)]
  refine Finset.sum_congr rfl fun d _ => ?_
  rw [rdQ, rdK]

/-- A block's value is the value of the array. -/
theorem val_eq (c : Dev nD) (t : Fin cfg0.N) (h : Fin 4) (l : Fin 128) (k : Fin 768) :
    iblk m c 2 t (ix4 0 h k l) = vl m c ⟨t.val / 88, by have := tlt t; omega⟩ h l (768 * (t.val % 11) + k.val) := by
  unfold vl
  rw [dif_pos (by omega), rdW]

/-- The filled maximum is the bottom element. -/
theorem fillM (j : S4x1024x128.Idx) : k0_pay3 (F := Ideal) j = ⊥ := by
  rw [show k0_pay3 (F := Ideal) j = Ideal.ofBits .f32 4286578688#32 from rfl, ofBits_ninf]

/-- The filled accumulator is zero. -/
theorem fillA (j : S4x1024x128.Idx) : k0_pay4 (F := Ideal) j = 0 := by
  rw [show k0_pay4 (F := Ideal) j = Ideal.ofBits .f32 0#32 from rfl]
  exact Ideal.ofBits_zero .f32

/-- One step of the running maximum. -/
theorem stepM (c : Dev nD) (t : Fin cfg0.N) (S : Vec Ideal S4x1024x128 .f32) (h : Fin 4) (r : Fin 1024) (l : Fin 128)
    (hS : S (ix3 h r l) = supN (sc m c ⟨t.val / 88, by have := tlt t; omega⟩ h ⟨1024 * (t.val / 11 % 8) + r.val, by omega⟩) (768 * (t.val % 11))) :
    newM (X0_0 m c t) (iblk m c 1 t) S (ix3 h r l)
      = supN (sc m c ⟨t.val / 88, by have := tlt t; omega⟩ h ⟨1024 * (t.val / 11 % 8) + r.val, by omega⟩) (768 * (t.val % 11) + 768) := by
  rw [← supN_add, ← hS]
  change max _ (Finset.fold max ⊥ (score (X0_0 m c t) (iblk m c 1 t) h r) _) = _
  rw [show score (X0_0 m c t) (iblk m c 1 t) h r = _ from funext fun k => score_eq m c t h r k]

/-- One step of the accumulator, on real scores. -/
theorem stepA (c : Dev nD) (t : Fin cfg0.N) (S A : Vec Ideal S4x1024x128 .f32) (h : Fin 4) (r : Fin 1024) (l : Fin 128) (f : ℕ → ℝ)
    (hf : sc m c ⟨t.val / 88, by have := tlt t; omega⟩ h ⟨1024 * (t.val / 11 % 8) + r.val, by omega⟩ = fun i => (f i : EReal))
    (hS : ∀ l, S (ix3 h r l) = supN (sc m c ⟨t.val / 88, by have := tlt t; omega⟩ h ⟨1024 * (t.val / 11 % 8) + r.val, by omega⟩) (768 * (t.val % 11)))
    (hA : A (ix3 h r l) = sumN (sc m c ⟨t.val / 88, by have := tlt t; omega⟩ h ⟨1024 * (t.val / 11 % 8) + r.val, by omega⟩)
      (vl m c ⟨t.val / 88, by have := tlt t; omega⟩ h l) (768 * (t.val % 11))
      (supN (sc m c ⟨t.val / 88, by have := tlt t; omega⟩ h ⟨1024 * (t.val / 11 % 8) + r.val, by omega⟩) (768 * (t.val % 11)))) :
    newA (X0_0 m c t) (iblk m c 1 t) (iblk m c 2 t) S A (ix3 h r l)
      = sumN (sc m c ⟨t.val / 88, by have := tlt t; omega⟩ h ⟨1024 * (t.val / 11 % 8) + r.val, by omega⟩)
      (vl m c ⟨t.val / 88, by have := tlt t; omega⟩ h l) (768 * (t.val % 11) + 768)
      (supN (sc m c ⟨t.val / 88, by have := tlt t; omega⟩ h ⟨1024 * (t.val / 11 % 8) + r.val, by omega⟩) (768 * (t.val % 11) + 768)) := by
  have e : newA (X0_0 m c t) (iblk m c 1 t) (iblk m c 2 t) S A (ix3 h r l)
      = Ideal.exp (S (ix3 h r l) - newM (X0_0 m c t) (iblk m c 1 t) S (ix3 h r l)) * A (ix3 h r l)
        + ∑ k : Fin 768, Ideal.exp (score (X0_0 m c t) (iblk m c 1 t) h r k
            - newM (X0_0 m c t) (iblk m c 1 t) S (ix3 h r ⟨k.val % 128, Nat.mod_lt _ (by decide)⟩)) * iblk m c 2 t (ix4 0 h k l) := rfl
  rw [e]
  simp only [stepM m c t S h r _ (hS _), hS, hA, score_eq, val_eq, hf]
  exact sumN_add f _ _ 768 (by decide)

end Cert.AttnIdeal.Head
-- ==== Proof.AttnRows.lean ====
module

public import proofs.«01_k».proof.Proof.AttnFold

@[expose] public section

set_option maxRecDepth 16384

noncomputable section

/-! The attention kernel's result at an index: a quotient of two sums over all the keys. -/

namespace Cert.AttnIdeal.Head

open Idealize.ShloMosaic Idealize.SL.Sem Idealize.ShloMosaic.TcCoe
open Cert.AttnIdeal Cert.AttnIdeal.Gen Cert.Softmax

variable (m : (ℓ : Loc nD τ sig) → Buf (Elt Ideal) ℓ)

/-- All scores of the query rows in use are real numbers. -/
def RealScores (c : Dev nD) : Prop := ∀ (b : Fin 2) (h : Fin 4) (R : Fin 8448), R.val < 8192 → ∃ f : ℕ → ℝ, sc m c b h R = fun i => (f i : EReal)

/-- The scratch buffers after `n + 1` key blocks of query block `qi` of batch `b`. -/
theorem state (c : Dev nD) (hr : RealScores m c) (b : Fin 2) (qi : Fin 8) : ∀ (n : ℕ) (hn : n < 11)
    (ht : 88 * b.val + 11 * qi.val + n < cfg0.N),
    (∀ (h : Fin 4) (r : Fin 1024) (l : Fin 128), (outsAt0 (F := Ideal) m c (88 * b.val + 11 * qi.val + n) ht).2.1 (ix3 h r l)
        = supN (sc m c b h ⟨1024 * qi.val + r.val, by omega⟩) (768 * n + 768))
    ∧ (∀ (h : Fin 4) (r : Fin 1024) (l : Fin 128), (outsAt0 (F := Ideal) m c (88 * b.val + 11 * qi.val + n) ht).2.2 (ix3 h r l)
        = sumN (sc m c b h ⟨1024 * qi.val + r.val, by omega⟩) (vl m c b h l) (768 * n + 768)
          (supN (sc m c b h ⟨1024 * qi.val + r.val, by omega⟩) (768 * n + 768))) := by
  intro n
  induction n with
  | zero =>
    intro hn ht
    obtain ⟨t, e⟩ : ∃ t : Fin cfg0.N, t.val = 88 * b.val + 11 * qi.val + 0 := ⟨⟨_, ht⟩, rfl⟩
    have h0 : t.val % 11 = 0 := by omega
    have h1 : ¬ t.val % 11 = 10 := by omega
    have eb : (⟨t.val / 88, by have := tlt t; omega⟩ : Fin 2) = b := Fin.ext (by dsimp only; omega)
    have er : ∀ r : Fin 1024, (⟨1024 * (t.val / 11 % 8) + r.val, by omega⟩ : Fin 8448) = ⟨1024 * qi.val + r.val, by omega⟩ :=
      fun r => Fin.ext (by dsimp only; omega)
    have eM := maxA m c t h0 h1
    have eA := accA m c t h0 h1
    have sM := fun h r l => stepM m c t (k0_pay3 (F := Ideal)) h r l
    have sA := fun h r l f => stepA m c t (k0_pay3 (F := Ideal)) (k0_pay4 (F := Ideal)) h r l f
    simp only [eb, er, h0] at sM sA
    simp only [← e]
    refine ⟨fun h r l => ?_, fun h r l => ?_⟩
    · rw [eM]; exact sM h r l (by rw [fillM]; rfl)
    · obtain ⟨f, hf⟩ := hr b h ⟨1024 * qi.val + r.val, by omega⟩ (by dsimp only; omega)
      rw [eA]; exact sA h r l f hf (fun l => by rw [fillM]; rfl) (by rw [fillA]; rfl)
  | succ n ih =>
    intro hn ht
    obtain ⟨t, e⟩ : ∃ t : Fin cfg0.N, t.val = 88 * b.val + 11 * qi.val + (n + 1) := ⟨⟨_, ht⟩, rfl⟩
    have h0 : ¬ t.val % 11 = 0 := by omega
    have hm : t.val % 11 = n + 1 := by omega
    have eb : (⟨t.val / 88, by have := tlt t; omega⟩ : Fin 2) = b := Fin.ext (by dsimp only; omega)
    have er : ∀ r : Fin 1024, (⟨1024 * (t.val / 11 % 8) + r.val, by omega⟩ : Fin 8448) = ⟨1024 * qi.val + r.val, by omega⟩ :=
      fun r => Fin.ext (by dsimp only; omega)
    obtain ⟨iM, iA⟩ := ih (by omega) (by omega)
    have ep : 88 * b.val + 11 * qi.val + n = t.val - 1 := by omega
    simp only [ep] at iM iA
    have eM : (outsAt0 (F := Ideal) m c t.val t.isLt).2.1 = newM (X0_0 m c t) (iblk m c 1 t)
        (outsAt0 m c (t.val - 1) (Nat.lt_of_le_of_lt (Nat.sub_le _ _) t.isLt)).2.1 := by
      by_cases h1 : t.val % 11 = 10
      · exact maxC m c t h0 h1
      · exact maxB m c t h0 h1
    have eA : (outsAt0 (F := Ideal) m c t.val t.isLt).2.2 = newA (X0_0 m c t) (iblk m c 1 t) (iblk m c 2 t)
        (outsAt0 m c (t.val - 1) (Nat.lt_of_le_of_lt (Nat.sub_le _ _) t.isLt)).2.1
        (outsAt0 m c (t.val - 1) (Nat.lt_of_le_of_lt (Nat.sub_le _ _) t.isLt)).2.2 := by
      by_cases h1 : t.val % 11 = 10
      · exact accC m c t h0 h1
      · exact accB m c t h0 h1
    have sM := fun h r l S => stepM m c t S h r l
    have sA := fun h r l f S A => stepA m c t S A h r l f
    simp only [eb, er, hm] at sM sA
    simp only [← e]
    refine ⟨fun h r l => ?_, fun h r l => ?_⟩
    · rw [eM]; exact sM h r l _ (iM h r l)
    · obtain ⟨f, hf⟩ := hr b h ⟨1024 * qi.val + r.val, by omega⟩ (by dsimp only; omega)
      rw [eA]; exact sA h r l f _ _ hf (fun l => iM h r l) (iA h r l)

/-- The result of the kernel at an index. -/
theorem result (c : Dev nD) (hr : RealScores m c) (b : Fin 2) (R : Fin 8192) (l : Fin 256) :
    Value.G3 (F := Ideal) m c (ix3 b R l)
      = Ideal.div
        (sumN (sc m c b ⟨l.val / 64, by omega⟩ ⟨R.val, by omega⟩) (vl m c b ⟨l.val / 64, by omega⟩ ⟨l.val % 64, by omega⟩) 8448
          (supN (sc m c b ⟨l.val / 64, by omega⟩ ⟨R.val, by omega⟩) 8448))
        (sumN (sc m c b ⟨l.val / 64, by omega⟩ ⟨R.val, by omega⟩) (vl m c b ⟨l.val / 64, by omega⟩ 64) 8448
          (supN (sc m c b ⟨l.val / 64, by omega⟩ ⟨R.val, by omega⟩) 8448)) := by
  have hp : Value.pt3Of (ix3 b R l) = 88 * b.val + 11 * (R.val / 1024) + 10 := by
    change 11 * (8 * (b.val / 1 - 0) + 1 * (R.val / 1024 - 0) + 1 * (l.val / 256 - 0)) + 10 = _
    omega
  have hN : 88 * b.val + 11 * (R.val / 1024) + 10 < cfg0.N := lt_of_lt_of_eq (by omega) N_0.symm
  obtain ⟨t, e⟩ : ∃ t : Fin cfg0.N, t.val = 88 * b.val + 11 * (R.val / 1024) + 10 := ⟨⟨_, hN⟩, rfl⟩
  have hl : Value.loc3Of (ix3 b R l) = ix3 0 ⟨R.val % 1024, Nat.mod_lt _ (by decide)⟩ l := by
    funext a
    fin_cases a <;> apply Fin.ext
    · change b.val % 1 = 0; omega
    · rfl
    · change l.val % 256 = l.val; omega
  have eG : Value.G3 (F := Ideal) m c (ix3 b R l) = (outsAt0 (F := Ideal) m c t.val t.isLt).1 (ix3 0 ⟨R.val % 1024, Nat.mod_lt _ (by decide)⟩ l) := by
    unfold Value.G3
    have hP : Value.pt3Of (ix3 b R l) < cfg0.N := by rw [hp]; exact hN
    have ef := Value.fold0_congr m c (Value.pt3Of (ix3 b R l)) (by omega) t.val (by have := t.isLt; omega) (by rw [hp, e])
    rw [dif_pos hP, hl, ef, Value.outsAt0_sweep]
  obtain ⟨_, iA⟩ := state m c hr b ⟨R.val / 1024, by omega⟩ 10 (by decide) hN
  dsimp only at iA
  simp only [← e] at iA
  rw [eG, outC m c t (by omega) (by omega), iA, iA]
  have eR : (⟨1024 * (R.val / 1024) + R.val % 1024, by omega⟩ : Fin 8448) = ⟨R.val, by omega⟩ := Fin.ext (by dsimp only; omega)
  rw [eR]

end Cert.AttnIdeal.Head
-- ==== Proof.AttnPre.lean ====
module

public import proofs.«01_k».proof.Proof.AttnRows
public import proofs.«01_k».proof.Proof.Gen.Pre_finite_and_ones
public import proofs.«01_k».proof.Defs
public import Idealize.ShloMosaic.Lib.ReduceAll

@[expose] public section

set_option maxRecDepth 16384

noncomputable section

/-! What the precondition of the attention claim gives at an index. -/

namespace Cert.AttnIdeal.Head

open Idealize.ShloMosaic Idealize.SL.Sem Idealize.ShloMosaic.TcCoe
open Cert.AttnIdeal Cert.AttnIdeal.Gen Cert.Softmax

variable (m : (ℓ : Loc nD τ sig) → Buf (Elt Ideal) ℓ)

/-- A comparison that holds, as a proposition: less than. -/
theorem lt_of_cmp {x y : EReal} (h : Ideal.cmp .olt x y = 1#1) : x < y := by
  by_contra hn
  simp [Ideal.cmp, hn] at h

/-- A comparison that holds, as a proposition: equal. -/
theorem eq_of_cmp {x y : EReal} (h : Ideal.cmp .oeq x y = 1#1) : x = y := by
  by_contra hn
  simp [Ideal.cmp, hn] at h

/-- An extended real whose absolute value is below plus infinity is a real number. -/
theorem real_of_abs_lt {x : EReal} (h : max x (-x) < Ideal.ofBits .f32 0x7F800000#32) : ∃ r : ℝ, x = (r : EReal) := by
  have e : Ideal.ofBits .f32 0x7F800000#32 = ⊤ := by simp [Ideal.ofBits, Ideal.ieee]
  rw [e] at h
  induction x with
  | bot => simp at h
  | top => simp at h
  | coe r => exact ⟨r, rfl⟩

/-- The precondition's three conjuncts at an index: used queries finite, keys finite, lane 64 of the values one. -/
theorem pre_apply (h : Cert.Pre_AttnIdeal_finite_and_ones m) (c : Dev nD) :
    (∀ (b : Fin 2) (hd : Fin 4) (R : Fin 8192) (d : Fin 128), ∃ x : ℝ, Q m c (ix4 b hd ⟨R.val, by omega⟩ d) = (x : EReal))
    ∧ (∀ (b : Fin 2) (hd : Fin 4) (R : Fin 8448) (d : Fin 128), ∃ x : ℝ, K m c (ix4 b hd R d) = (x : EReal))
    ∧ ∀ (b : Fin 2) (hd : Fin 4) (R : Fin 8448), W m c (ix4 b hd R 64) = 1 := by
  have e := congrFun (h c) ix0
  unfold Cert.Pre_finite_and_ones.fn at e
  dsimp only [andi] at e
  rw [IntOp.andi_eq_one, IntOp.andi_eq_one] at e
  obtain ⟨⟨eq, ek⟩, ev⟩ := e
  refine ⟨fun b hd R d => ?_, fun b hd R d => ?_, fun b hd R => ?_⟩
  · have e1 := Host.reduce_andi_all _ _ _ _ _ eq (ix4 b hd R d)
    pointwise at e1
    exact real_of_abs_lt (lt_of_cmp e1)
  · have e1 := Host.reduce_andi_all _ _ _ _ _ ek (ix4 b hd R d)
    pointwise at e1
    exact real_of_abs_lt (lt_of_cmp e1)
  · have e1 := Host.reduce_andi_all _ _ _ _ _ ev (ix4 b hd R 0)
    pointwise at e1
    exact eq_of_cmp e1

/-- A sum of products of real numbers is real. -/
theorem real_dot (f g : Fin 128 → EReal) (hf : ∀ d, ∃ x : ℝ, f d = (x : EReal)) (hg : ∀ d, ∃ x : ℝ, g d = (x : EReal)) :
    ∃ x : ℝ, ∑ d, f d * g d = (x : EReal) := by
  choose a ha using hf
  choose b hb using hg
  refine ⟨∑ d, a d * b d, ?_⟩
  simp only [ha, hb, ← EReal.coe_mul]
  exact (map_sum (⟨⟨Real.toEReal, EReal.coe_zero⟩, EReal.coe_add⟩ : ℝ →+ EReal) _ _).symm

/-- Under the precondition all the scores are real numbers. -/
theorem realScores (h : Cert.Pre_AttnIdeal_finite_and_ones m) (c : Dev nD) : RealScores m c := by
  obtain ⟨hq, hk, _⟩ := pre_apply m h c
  intro b hd R hR
  have hx : ∀ i : ℕ, ∃ x : ℝ, sc m c b hd R i = (x : EReal) := by
    intro i
    unfold sc
    split_ifs with hi
    · exact real_dot _ _ (fun d => hq b hd ⟨R.val, hR⟩ d) (fun d => hk b hd _ d)
    · exact ⟨0, rfl⟩
  choose f hf using hx
  exact ⟨f, funext hf⟩

/-- Under the precondition lane 64 of the values is one at every key. -/
theorem ones (h : Cert.Pre_AttnIdeal_finite_and_ones m) (c : Dev nD) (b : Fin 2) (hd : Fin 4) (s : ℕ → EReal) (M : EReal) :
    sumN s (vl m c b hd 64) 8448 M = sumN s (fun _ => 1) 8448 M := by
  obtain ⟨_, _, hv⟩ := pre_apply m h c
  refine Finset.sum_congr rfl fun i hi => ?_
  rw [vl, dif_pos (Finset.mem_range.mp hi), hv]

/-- Under the precondition the result of the kernel at an index is the sum over the keys of a value times its normalised weight. -/
theorem result_soft (h : Cert.Pre_AttnIdeal_finite_and_ones m) (c : Dev nD) (b : Fin 2) (R : Fin 8192) (l : Fin 256) :
    Value.G3 (F := Ideal) m c (ix3 b R l)
      = ∑ i ∈ Finset.range 8448, vl m c b ⟨l.val / 64, by omega⟩ ⟨l.val % 64, by omega⟩ i
        * Ideal.div (Ideal.exp (sc m c b ⟨l.val / 64, by omega⟩ ⟨R.val, by omega⟩ i - supN (sc m c b ⟨l.val / 64, by omega⟩ ⟨R.val, by omega⟩) 8448))
          (∑ k ∈ Finset.range 8448, Ideal.exp (sc m c b ⟨l.val / 64, by omega⟩ ⟨R.val, by omega⟩ k - supN (sc m c b ⟨l.val / 64, by omega⟩ ⟨R.val, by omega⟩) 8448)) := by
  obtain ⟨f, hf⟩ := realScores m h c b ⟨l.val / 64, by omega⟩ ⟨R.val, by omega⟩ R.isLt
  rw [result m c (realScores m h c), ones m h, hf]
  exact div_sumN f _ 8448 (by decide) _ rfl

end Cert.AttnIdeal.Head
-- ==== Proof.AttnRefRead.lean ====
module

public import proofs.«01_k».proof.Proof.Gen.AttnRefIdeal.Run
public import Idealize.ShloMosaic.Lib.Pipeline.ValueKit
public import proofs.«01_k».proof.Proof.Softmax

@[expose] public section

set_option maxRecDepth 16384

noncomputable section

/-! The attention reference at an index: the sum over the keys of a value times its normalised weight. -/

namespace Cert.AttnRefIdeal.Read

open Idealize.ShloMosaic Idealize.SL.Sem Idealize.ShloMosaic.TcCoe
open Cert.AttnRefIdeal Cert.AttnRefIdeal.Gen Cert.Softmax

/-- The scores. -/
def scores (q k : Vec Ideal S2x4x8448x128 .bf16) : Vec Ideal S2x4x8192x8448 .f32 :=
  Host.dotGeneral (F := Ideal) (φ₁ := .f32) (φ₂ := .f32) dot_S2x4x8192x128_S2x4x8448x128_S2x4x8192x8448_3_3_2_2_01_01 none (extf (F := Ideal) .f32 (extractStridedSlice S2x4x8192x128 ![0, 0, 0, 0] q slices_S2x4x8448x128_S2x4x8192x128_0_0_0_0) bitsLt_bf16_f32) (extf (F := Ideal) .f32 k bitsLt_bf16_f32)

/-- The rows' maxima. -/
def maxima (s : Vec Ideal S2x4x8192x8448 .f32) : Vec Ideal S2x4x8192 .f32 :=
  (maximumf (F := Ideal) (broadcastInDim S2x4x8192 ![] bcast_S_S2x4x8192 (constant (F := Ideal) S_ .f32 0xFF800000#32)) (Host.reduce (FloatOps.maximumf (F := Ideal)) s (constant (F := Ideal) S_ .f32 0xFF800000#32) reducesTo_S2x4x8192x8448_S2x4x8192_d3 h_S_))

/-- The exponentials of the scores less their row's number. -/
def exps (s : Vec Ideal S2x4x8192x8448 .f32) (M : Vec Ideal S2x4x8192 .f32) : Vec Ideal S2x4x8192x8448 .f32 :=
  (Host.exp (F := Ideal) (φ := .f32) (subf (F := Ideal) (φ := .f32) s (broadcastInDim S2x4x8192x8448 ![0, 1, 2, 3] bcast_S2x4x8192x1_S2x4x8192x8448_0_1_2_3 (broadcastInDim S2x4x8192x1 ![0, 1, 2] bcast_S2x4x8192_S2x4x8192x1_0_1_2 M))))

/-- Weights divided by their row's sum. -/
def normed (e : Vec Ideal S2x4x8192x8448 .f32) : Vec Ideal S2x4x8192x8448 .f32 :=
  Host.divf (F := Ideal) e (broadcastInDim S2x4x8192x8448 ![0, 1, 2, 3] bcast_S2x4x8192x1_S2x4x8192x8448_0_1_2_3 (broadcastInDim S2x4x8192x1 ![0, 1, 2] bcast_S2x4x8192_S2x4x8192x1_0_1_2 (Host.reduceAdd (F := Ideal) e (constant (F := Ideal) S_ .f32 0x00000000#32) reducesTo_S2x4x8192x8448_S2x4x8192_d3 h_S_)))

/-- The values weighted and laid out by rows. -/
def outs (w : Vec Ideal S2x4x8448x128 .bf16) (p : Vec Ideal S2x4x8192x8448 .f32) : Vec Ideal S2x8192x256 .f32 :=
  shapeCast S2x8192x256 (transpose S2x8192x4x64 [0, 3, 1, 2] (Host.dotGeneral (F := Ideal) (φ₁ := .f32) (φ₂ := .f32) dot_S2x4x8448x64_S2x4x8192x8448_S2x4x64x8192_2_3_3_2_01_01 none (extf (F := Ideal) .f32 (extractStridedSlice S2x4x8448x64 ![0, 0, 0, 0] w slices_S2x4x8448x128_S2x4x8448x64_0_0_0_0) bitsLt_bf16_f32) p) transposes_S2x4x64x8192_S2x8192x4x64_0_3_1_2) shapeCasts_S2x8192x4x64_S2x8192x256

/-- A score at an index. -/
theorem scores_apply (q k : Vec Ideal S2x4x8448x128 .bf16) (b : Fin 2) (h : Fin 4) (R : Fin 8192) (i : Fin 8448) :
    scores q k (ix4 b h R i) = ∑ d : Fin 128, q (ix4 b h ⟨R.val, by omega⟩ d) * k (ix4 b h i d) := by
  unfold scores
  pointwise

/-- A row's reduction by the maximum. -/
theorem reduce_apply (s : Vec Ideal S2x4x8192x8448 .f32) (b : Fin 2) (h : Fin 4) (R : Fin 8192) :
    Host.reduce (FloatOps.maximumf (F := Ideal)) s (constant (F := Ideal) S_ .f32 0xFF800000#32) reducesTo_S2x4x8192x8448_S2x4x8192_d3 h_S_ (ix3 b h R)
      = foldMax (Ideal.ofBits .f32 4286578688#32) fun i : Fin 8448 => s (ix4 b h R i) := by
  obtain ⟨y, hy⟩ : ∃ y, y = Host.reduce (FloatOps.maximumf (F := Ideal)) s (constant (F := Ideal) S_ .f32 0xFF800000#32) reducesTo_S2x4x8192x8448_S2x4x8192_d3 h_S_ (ix3 b h R) := ⟨_, rfl⟩
  rw [← hy]
  pointwise at hy
  rw [hy]
  unfold foldMax
  exact fold_op _ _ (fun _ _ => rfl) _ _

/-- A row's maximum. -/
theorem maxima_apply (s : Vec Ideal S2x4x8192x8448 .f32) (b : Fin 2) (h : Fin 4) (R : Fin 8192) :
    maxima s (ix3 b h R) = foldMax ⊥ fun i : Fin 8448 => s (ix4 b h R i) := by
  have e0 : Ideal.ofBits .f32 4286578688#32 = ⊥ := by simp [Ideal.ofBits, Ideal.ieee]
  have e2 : ∀ y : Vec Ideal S2x4x8192 .f32, maximumf (F := Ideal) (φ := .f32) (broadcastInDim S2x4x8192 ![] bcast_S_S2x4x8192 (constant (F := Ideal) S_ .f32 0xFF800000#32)) y (ix3 b h R)
      = max (Ideal.ofBits .f32 4286578688#32) (y (ix3 b h R)) := fun y => rfl
  unfold maxima
  refine (e2 _).trans ?_
  rw [reduce_apply, e0]
  exact max_eq_right bot_le

/-- An exponential at an index. -/
theorem exps_apply (s : Vec Ideal S2x4x8192x8448 .f32) (M : Vec Ideal S2x4x8192 .f32) (b : Fin 2) (h : Fin 4) (R : Fin 8192) (i : Fin 8448) :
    exps s M (ix4 b h R i) = Ideal.exp (s (ix4 b h R i) - M (ix3 b h R)) := by
  unfold exps
  pointwise

/-- A normalised weight at an index. -/
theorem normed_apply (e : Vec Ideal S2x4x8192x8448 .f32) (b : Fin 2) (h : Fin 4) (R : Fin 8192) (i : Fin 8448) :
    normed e (ix4 b h R i) = Ideal.div (e (ix4 b h R i)) (∑ k : Fin 8448, e (ix4 b h R k)) := by
  unfold normed
  pointwise

/-- The result at an index. -/
theorem outs_apply (w : Vec Ideal S2x4x8448x128 .bf16) (p : Vec Ideal S2x4x8192x8448 .f32) (b : Fin 2) (R : Fin 8192) (l : Fin 256) :
    outs w p (ix3 b R l) = ∑ i : Fin 8448, w (ix4 b ⟨l.val / 64, by omega⟩ i ⟨l.val % 64, by omega⟩) * p (ix4 b ⟨l.val / 64, by omega⟩ R i) := by
  unfold outs
  pointwise

end Cert.AttnRefIdeal.Read
-- ==== Proof.AttnEq.lean ====
module

public import proofs.«01_k».proof.Proof.AttnPre
public import proofs.«01_k».proof.Proof.AttnRefRead

@[expose] public section

set_option maxRecDepth 16384

noncomputable section

/-! The attention kernel and its reference hold equal results. -/

namespace Cert.AttnIdeal.Head

open Idealize.ShloMosaic Idealize.SL.Sem Idealize.ShloMosaic.TcCoe
open Cert.AttnIdeal Cert.AttnIdeal.Gen Cert.Softmax Cert.AttnRefIdeal.Read

variable (m : (ℓ : Loc nD τ sig) → Buf (Elt Ideal) ℓ)

/-- A score of the reference is the kernel's score. -/
theorem scores_sc (c : Dev nD) (b : Fin 2) (h : Fin 4) (R : Fin 8192) (i : Fin 8448) :
    scores (Q m c) (K m c) (ix4 b h R i) = sc m c b h ⟨R.val, by omega⟩ i.val := by
  rw [scores_apply, sc, dif_pos i.isLt]

/-- A row's maximum in the reference is the maximum over all the keys. -/
theorem maxima_sup (c : Dev nD) (b : Fin 2) (h : Fin 4) (R : Fin 8192) :
    maxima (scores (Q m c) (K m c)) (ix3 b h R) = supN (sc m c b h ⟨R.val, by omega⟩) 8448 := by
  rw [maxima_apply]
  have e := supN_add (sc m c b h ⟨R.val, by omega⟩) 0 8448
  rw [supN_zero, max_eq_right bot_le] at e
  simp only [Nat.zero_add] at e
  rw [← e]
  exact congrArg (foldMax ⊥) (funext fun i => scores_sc m c b h R i)

/-- Under the precondition the kernel's result is the reference's. -/
theorem equal (h : Cert.Pre_AttnIdeal_finite_and_ones m) (c : Dev nD) :
    outs (W m c) (normed (exps (scores (Q m c) (K m c)) (maxima (scores (Q m c) (K m c))))) = Value.G3 (F := Ideal) m c := by
  funext i
  obtain ⟨b, R, l, rfl⟩ : ∃ (b : Fin 2) (R : Fin 8192) (l : Fin 256), i = ix3 b R l :=
    ⟨i 0, i 1, i 2, by funext a; fin_cases a <;> rfl⟩
  rw [outs_apply, result_soft m h, ← Fin.sum_univ_eq_sum_range]
  refine Finset.sum_congr rfl fun k _ => ?_
  rw [normed_apply]
  simp only [exps_apply, maxima_sup, scores_sc]
  rw [vl, dif_pos k.isLt, ← Fin.sum_univ_eq_sum_range]

end Cert.AttnIdeal.Head
-- ==== Proof.Rms.lean ====
module

public import Idealize.ShloMosaic.Lib.Pipeline.ValueKit

@[expose] public section

noncomputable section

/-! The norm that the projection and the final norm share. -/

namespace Cert.Norm

open Idealize.ShloMosaic

/-- A row of 1024 numbers divided by the root of its mean square, at lane `d`. -/
def rms (x : Fin 1024 → EReal) (d : Fin 1024) : EReal :=
  x d * Ideal.rsqrt (Ideal.div (∑ k, x k * x k) (Ideal.ofBits .f32 0x44800000#32) + Ideal.ofBits .f32 0x358637BD#32)

end Cert.Norm
-- ==== Proof.ProjRead.lean ====
module

public import proofs.«01_k».proof.Proof.Gen.InProjIdeal.Value
public import proofs.«01_k».proof.Proof.Gen.InProjRefIdeal.Run
public import Idealize.ShloMosaic.Lib.Pipeline.ValueKit
public import proofs.«01_k».proof.Proof.Rms

@[expose] public section

set_option maxRecDepth 16384

noncomputable section

/-! The input projection: what a grid point stores and what the reference holds, each at an index. -/

namespace Cert.Proj

open Idealize.ShloMosaic Idealize.SL.Sem Idealize.ShloMosaic.TcCoe Cert.Norm

/-- A row normed, scaled and shifted, at lane `d`. -/
def modu (x : Fin 1024 → EReal) (g sh sc : Fin 1024 → EReal) (d : Fin 1024) : EReal :=
  rms x d * g d * (Ideal.ofBits .f32 0x3F800000#32 + sc d) + sh d

/-- The kernel's block: each row modulated, times the packed weights. -/
theorem pay_apply (x : Vec Ideal Cert.InProjIdeal.S1x256x1024 .f32) (g : Vec Ideal Cert.InProjIdeal.S1x1024 .f32)
    (sh sc : Vec Ideal Cert.InProjIdeal.S1x1x1024 .f32) (w : Vec Ideal Cert.InProjIdeal.S1024x2944 .bf16) (r : Fin 256) (n : Fin 2944) :
    Cert.InProjIdeal.Gen.k0_pay1 (F := Ideal) x g sh sc w (ix3 0 r n)
      = ∑ d, modu (fun k => x (ix3 0 r k)) (fun k => g (ix2 0 k)) (fun k => sh (ix3 0 0 k)) (fun k => sc (ix3 0 0 k)) d * w (ix2 d n) := by
  unfold Cert.InProjIdeal.Gen.k0_pay1 modu rms
  pointwise

section
open Cert.InProjRefIdeal Cert.InProjRefIdeal.Gen

/-- The latent rows of the reference, modulated. -/
def modL (h : Vec Ideal S2x8192x1024 .f32) (g : Vec Ideal S1024 .f32) (sh sc : Vec Ideal S2x1x1024 .f32) : Vec Ideal S2x8192x1024 .f32 :=
  (addf (F := Ideal) (φ := .f32) (mulf (F := Ideal) (φ := .f32) (mulf (F := Ideal) (φ := .f32) (mulf (F := Ideal) (φ := .f32) h (broadcastInDim S2x8192x1024 ![0, 1, 2] bcast_S2x8192x1_S2x8192x1024_0_1_2 (Host.rsqrt (F := Ideal) (φ := .f32) (addf (F := Ideal) (φ := .f32) (Host.divf (F := Ideal) (φ := .f32) (broadcastInDim S2x8192x1 ![0, 1] bcast_S2x8192_S2x8192x1_0_1 (Host.reduceAdd (F := Ideal) (φ := .f32) (mulf (F := Ideal) (φ := .f32) h h) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (F := Ideal) (φ := .f32) (broadcastInDim S2x1x1024 ![] bcast_S_S2x1x1024 (constant (F := Ideal) S_ .f32 0x3F800000#32)) sc))) (broadcastInDim S2x8192x1024 ![0, 1, 2] bcast_S2x1x1024_S2x8192x1024_0_1_2 sh))

/-- The context rows of the reference, modulated. -/
def modC (h : Vec Ideal S2x256x1024 .f32) (g : Vec Ideal S1024 .f32) (sh sc : Vec Ideal S1x1x1024 .f32) : Vec Ideal S2x256x1024 .f32 :=
  (addf (F := Ideal) (φ := .f32) (mulf (F := Ideal) (φ := .f32) (mulf (F := Ideal) (φ := .f32) (mulf (F := Ideal) (φ := .f32) h (broadcastInDim S2x256x1024 ![0, 1, 2] bcast_S2x256x1_S2x256x1024_0_1_2 (Host.rsqrt (F := Ideal) (φ := .f32) (addf (F := Ideal) (φ := .f32) (Host.divf (F := Ideal) (φ := .f32) (broadcastInDim S2x256x1 ![0, 1] bcast_S2x256_S2x256x1_0_1 (Host.reduceAdd (F := Ideal) (φ := .f32) (mulf (F := Ideal) (φ := .f32) h h) (constant (F := Ideal) S_ .f32 0x00000000#32) reducesTo_S2x256x1024_S2x256_d2 h_S_)) (broadcastInDim S2x256x1 ![] bcast_S_S2x256x1 (constant (F := Ideal) S_ .f32 0x44800000#32))) (broadcastInDim S2x256x1 ![] bcast_S_S2x256x1 (constant (F := Ideal) S_ .f32 0x358637BD#32)))))) (broadcastInDim S2x256x1024 ![0, 1, 2] bcast_S1x1x1024_S2x256x1024_0_1_2 (broadcastInDim S1x1x1024 ![2] bcast_S1024_S1x1x1024_2 g))) (broadcastInDim S2x256x1024 ![0, 1, 2] bcast_S1x1x1024_S2x256x1024_0_1_2 (addf (F := Ideal) (φ := .f32) (broadcastInDim S1x1x1024 ![] bcast_S_S1x1x1024 (constant (F := Ideal) S_ .f32 0x3F800000#32)) sc))) (broadcastInDim S2x256x1024 ![0, 1, 2] bcast_S1x1x1024_S2x256x1024_0_1_2 sh))

/-- The two groups of rows, projected, one after the other. -/
def res (a : Vec Ideal S2x8192x1024 .f32) (b : Vec Ideal S2x256x1024 .f32) (w : Vec Ideal S1024x2944 .f32) : Vec Ideal S2x8448x2944 .f32 :=
  concatenate S2x8448x2944 1 [⟨S2x8192x2944, (Host.dotGeneral (F := Ideal) (φ₁ := .f32) (φ₂ := .f32) dot_S2x8192x1024_S1024x2944_S2x8192x2944_2_0_01_1_n_n none a w)⟩, ⟨S2x256x2944, (Host.dotGeneral (F := Ideal) (φ₁ := .f32) (φ₂ := .f32) dot_S2x256x1024_S1024x2944_S2x256x2944_2_0_01_1_n_n none b w)⟩] concatenates_S2x8192x2944_S2x256x2944_S2x8448x2944_d1

/-- The reference's result from its memory. -/
def ref (m : (ℓ : Loc nD τ sig) → Buf (Elt Ideal) ℓ) (c : Dev nD) : Vec Ideal S2x8448x2944 .f32 :=
  res
    (modL (m ((c.tc : Thread nD τ).loc main_arg0)) (m ((c.tc : Thread nD τ).loc main_arg2)) (m ((c.tc : Thread nD τ).loc main_arg3)) (m ((c.tc : Thread nD τ).loc main_arg5)))
    (modC (m ((c.tc : Thread nD τ).loc main_arg1)) (m ((c.tc : Thread nD τ).loc main_arg2)) (m ((c.tc : Thread nD τ).loc main_arg4)) (m ((c.tc : Thread nD τ).loc main_arg6)))
    (m ((c.tc : Thread nD τ).loc main_arg7))

/-- A modulated latent row at an index. -/
theorem modL_apply (h : Vec Ideal S2x8192x1024 .f32) (g : Vec Ideal S1024 .f32) (sh sc : Vec Ideal S2x1x1024 .f32) (b : Fin 2) (R : Fin 8192) (d : Fin 1024) :
    modL h g sh sc (ix3 b R d) = modu (fun k => h (ix3 b R k)) (fun k => g (ix1 k)) (fun k => sh (ix3 b 0 k)) (fun k => sc (ix3 b 0 k)) d := by
  unfold modL modu rms
  pointwise

/-- A modulated context row at an index. -/
theorem modC_apply (h : Vec Ideal S2x256x1024 .f32) (g : Vec Ideal S1024 .f32) (sh sc : Vec Ideal S1x1x1024 .f32) (b : Fin 2) (R : Fin 256) (d : Fin 1024) :
    modC h g sh sc (ix3 b R d) = modu (fun k => h (ix3 b R k)) (fun k => g (ix1 k)) (fun k => sh (ix3 0 0 k)) (fun k => sc (ix3 0 0 k)) d := by
  unfold modC modu rms
  pointwise

/-- The reference's result in a latent row. -/
theorem res_lat (a : Vec Ideal S2x8192x1024 .f32) (c : Vec Ideal S2x256x1024 .f32) (w : Vec Ideal S1024x2944 .f32) (b : Fin 2) (R : Fin 8448) (hR : R.val < 8192) (n : Fin 2944) :
    res a c w (ix3 b R n) = ∑ d : Fin 1024, a (ix3 b ⟨R.val, hR⟩ d) * w (ix2 d n) := by
  unfold res
  pointwise
  rw [dif_pos hR]

/-- The reference's result in a context row. -/
theorem res_ctx (a : Vec Ideal S2x8192x1024 .f32) (c : Vec Ideal S2x256x1024 .f32) (w : Vec Ideal S1024x2944 .f32) (b : Fin 2) (R : Fin 8448) (hR : ¬ R.val < 8192) (n : Fin 2944) :
    res a c w (ix3 b R n) = ∑ d : Fin 1024, c (ix3 b ⟨R.val - 8192, by omega⟩ d) * w (ix2 d n) := by
  unfold res
  pointwise
  rw [dif_neg hR]
end

end Cert.Proj
-- ==== Proof.ProjEq.lean ====
module

public import proofs.«01_k».proof.Proof.ProjRead

@[expose] public section

set_option maxRecDepth 16384

noncomputable section

/-! The projection kernel's array is the reference's: block by block, each block within the latent or the context rows. -/

namespace Cert.Proj

open Idealize.ShloMosaic Idealize.SL.Sem Idealize.ShloMosaic.TcCoe Cert.Norm
open Cert.InProjIdeal Cert.InProjIdeal.Gen

variable (m : (ℓ : Loc nD τ sig) → Buf (Elt Ideal) ℓ)

/-- The windows' blocks at a grid point: 33 blocks of rows for each of two batches, the last of them the context. -/
theorem idx : ∀ t : Fin cfg0.N, win0_0.index t = ![t.val / 33, t.val % 33, 0] ∧ win0_1.index t = ![0, 0]
    ∧ win0_2.index t = ![if t.val % 33 < 32 then t.val / 33 else 2, 0, 0] ∧ win0_3.index t = ![if t.val % 33 < 32 then t.val / 33 else 2, 0, 0]
    ∧ win0_4.index t = ![0, 0] ∧ win0_5.index t = ![t.val / 33, t.val % 33, 0] :=
  (by decide +kernel : ∀ t : Fin grid0.N, _)

section
variable (c : Dev nD) (t : Fin cfg0.N) (h33 : t.val / 33 < 2)

/-- A block of latent rows. -/
theorem rows_lat (hl : t.val % 33 < 32) (r : Fin 256) (k : Fin 1024) :
    iblk m c 0 t (ix3 0 r k) = m ((c.tc : Thread nD τ).loc main_arg0) (ix3 ⟨t.val / 33, h33⟩ ⟨t.val % 33 * 256 + r.val, by omega⟩ k) := by
  blk_simp [iblk]
  entry_read
  pointwise
  rw [dif_pos (by blk_simp [(idx t).1]; omega)]
  blk_ext [(idx t).1]

/-- The block of context rows. -/
theorem rows_ctx (hl : ¬ t.val % 33 < 32) (r : Fin 256) (k : Fin 1024) :
    iblk m c 0 t (ix3 0 r k) = m ((c.tc : Thread nD τ).loc main_arg1) (ix3 ⟨t.val / 33, h33⟩ r k) := by
  blk_simp [iblk]
  entry_read
  pointwise
  rw [dif_neg (by blk_simp [(idx t).1]; omega)]
  blk_ext [(idx t).1]

/-- The norm's weights. -/
theorem weights (k : Fin 1024) : iblk m c 1 t (ix2 0 k) = m ((c.tc : Thread nD τ).loc main_arg2) (ix1 k) := by
  blk_simp [iblk]
  entry_read
  pointwise
  blk_ext [(idx t).2.1]

/-- The shift of a latent block. -/
theorem shift_lat (hl : t.val % 33 < 32) (k : Fin 1024) :
    iblk m c 2 t (ix3 0 0 k) = m ((c.tc : Thread nD τ).loc main_arg3) (ix3 ⟨t.val / 33, h33⟩ 0 k) := by
  have e := (idx t).2.2.1
  rw [if_pos hl] at e
  blk_simp [iblk]
  entry_read
  pointwise
  rw [dif_pos (by blk_simp [e]; omega)]
  blk_ext [e]

/-- The shift of the context block. -/
theorem shift_ctx (hl : ¬ t.val % 33 < 32) (k : Fin 1024) :
    iblk m c 2 t (ix3 0 0 k) = m ((c.tc : Thread nD τ).loc main_arg4) (ix3 0 0 k) := by
  have e := (idx t).2.2.1
  rw [if_neg hl] at e
  blk_simp [iblk]
  entry_read
  pointwise
  rw [dif_neg (by blk_simp [e]; omega)]
  blk_ext [e]

/-- The scale of a latent block. -/
theorem scale_lat (hl : t.val % 33 < 32) (k : Fin 1024) :
    iblk m c 3 t (ix3 0 0 k) = m ((c.tc : Thread nD τ).loc main_arg5) (ix3 ⟨t.val / 33, h33⟩ 0 k) := by
  have e := (idx t).2.2.2.1
  rw [if_pos hl] at e
  blk_simp [iblk]
  entry_read
  pointwise
  rw [dif_pos (by blk_simp [e]; omega)]
  blk_ext [e]

/-- The scale of the context block. -/
theorem scale_ctx (hl : ¬ t.val % 33 < 32) (k : Fin 1024) :
    iblk m c 3 t (ix3 0 0 k) = m ((c.tc : Thread nD τ).loc main_arg6) (ix3 0 0 k) := by
  have e := (idx t).2.2.2.1
  rw [if_neg hl] at e
  blk_simp [iblk]
  entry_read
  pointwise
  rw [dif_neg (by blk_simp [e]; omega)]
  blk_ext [e]

/-- The packed weights. -/
theorem packed (d : Fin 1024) (n : Fin 2944) : iblk m c 4 t (ix2 d n) = m ((c.tc : Thread nD τ).loc main_arg7) (ix2 d n) := by
  blk_simp [iblk]
  entry_read
  pointwise
  blk_ext [(idx t).2.2.2.2.1]
end

/-- The kernel's array is the reference's result. -/
theorem equal (c : Dev nD) :
    (dats m 0 c).arrAt 5 cfg0.N = res
      (modL (m ((c.tc : Thread nD τ).loc main_arg0)) (m ((c.tc : Thread nD τ).loc main_arg2)) (m ((c.tc : Thread nD τ).loc main_arg3)) (m ((c.tc : Thread nD τ).loc main_arg5)))
      (modC (m ((c.tc : Thread nD τ).loc main_arg1)) (m ((c.tc : Thread nD τ).loc main_arg2)) (m ((c.tc : Thread nD τ).loc main_arg4)) (m ((c.tc : Thread nD τ).loc main_arg6)))
      (m ((c.tc : Thread nD τ).loc main_arg7)) := by
  refine (dats m 0 c).arrAt_eq_of_covers 5 _ (by decide +kernel) fun t hf y => ?_
  blk_simp
  rw [after0_5]
  frame_out
  obtain ⟨z, r, n, rfl⟩ : ∃ (z : Fin 1) (r : Fin 256) (n : Fin 2944), y = ix3 z r n := ⟨y 0, y 1, y 2, by funext a; fin_cases a <;> rfl⟩
  obtain rfl : z = 0 := Subsingleton.elim _ _
  have ht : t.val < 66 := t.isLt
  have h33 : t.val / 33 < 2 := by omega
  have e : ((cfg0.win 5).blk t).view.emb (ix3 0 r n) = ix3 (⟨t.val / 33, h33⟩ : Fin 2) (⟨t.val % 33 * 256 + r.val, by omega⟩ : Fin 8448) n := by
    blk_ext [(idx t).2.2.2.2.2]
  rw [e]
  refine (pay_apply _ _ _ _ _ r n).trans ?_
  by_cases hl : t.val % 33 < 32
  · rw [res_lat _ _ _ _ _ (by show t.val % 33 * 256 + r.val < 8192; omega)]
    refine Finset.sum_congr rfl fun d _ => ?_
    rw [modL_apply, packed]
    simp only [rows_lat m c t h33 hl, weights m c t, shift_lat m c t h33 hl, scale_lat m c t h33 hl]
  · rw [res_ctx _ _ _ _ _ (by show ¬ t.val % 33 * 256 + r.val < 8192; omega)]
    refine Finset.sum_congr rfl fun d _ => ?_
    have er : (⟨t.val % 33 * 256 + r.val - 8192, by omega⟩ : Fin 256) = r := Fin.ext (by show t.val % 33 * 256 + r.val - 8192 = r.val; omega)
    rw [modC_apply, packed]
    simp only [rows_ctx m c t h33 hl, weights m c t, shift_ctx m c t hl, scale_ctx m c t hl, er]

end Cert.Proj
-- ==== Proof.MixPay.lean ====
module

public import proofs.«01_k».proof.Proof.Gen.MixPostIdeal.Skeleton
public import Idealize.ShloMosaic.Lib.Pipeline.ValueKit
public import Idealize.ShloMosaic.PureOps.Ideal.Laws

@[expose] public section

set_option maxRecDepth 16384

noncomputable section

/-! The output mixing: what one grid point stores, at an index. -/

namespace Cert.Mix

open Idealize.ShloMosaic Idealize.SL.Sem Idealize.ShloMosaic.TcCoe

/-- The float word of one is one. -/
theorem one : Ideal.ofBits .f32 0x3F800000#32 = 1 := by
  simp [Ideal.ofBits, Ideal.ieee]
  rw [← EReal.coe_mul, ← EReal.coe_one]
  norm_num

/-- `x` times its logistic. -/
def silu (x : EReal) : EReal := x * Ideal.logistic x

/-- The exact gelu. -/
def gelu (x : EReal) : EReal := Ideal.ofBits .f32 0x3F000000#32 * x * (1 + Ideal.erf (x * Ideal.ofBits .f32 0x3F3504F3#32))

/-- A row of 256 lanes divided by the root of its mean square and weighted, at lane `d`. -/
def norm256 (s g : Fin 256 → EReal) (d : Fin 256) : EReal :=
  s d * Ideal.rsqrt (Ideal.div (∑ k, s k * s k) (Ideal.ofBits .f32 0x43800000#32) + Ideal.ofBits .f32 0x358637BD#32) * g d

/-- Lane `k` of the head that lane `d` belongs to. -/
def lane (d : Fin 256) (k : Fin 64) : Fin 256 := ⟨d.val / 64 * 64 + k.val, by omega⟩

/-- A row of four heads, each divided by the root of its mean square and weighted, at lane `d`. -/
def norm64 (o g : Fin 256 → EReal) (d : Fin 256) : EReal :=
  o d * Ideal.rsqrt (Ideal.div (∑ k, o (lane d k) * o (lane d k)) (Ideal.ofBits .f32 0x42800000#32) + Ideal.ofBits .f32 0x358637BD#32) * g d

/-- A row gated by the logistic of its linear image. -/
def gate (y : Fin 256 → EReal) (w : Fin 256 → Fin 256 → EReal) (b : Fin 256 → EReal) (d : Fin 256) : EReal :=
  y d * Ideal.logistic ((∑ k, y k * w k d) + b d)

/-- Four rows of 256 lanes side by side. -/
def side (p q r s : Fin 256 → EReal) (d : Fin 1024) : EReal :=
  if h : d.val < 256 then p ⟨d.val, h⟩ else if h : d.val - 256 < 256 then q ⟨d.val - 256, h⟩
  else if h : d.val - 256 - 256 < 256 then r ⟨d.val - 256 - 256, h⟩ else s ⟨d.val - 256 - 256 - 256, by omega⟩

open Cert.MixPostIdeal Cert.MixPostIdeal.Gen

/-- The scan's part. -/
theorem pay2_apply (a b : Vec Ideal S1x256x256 .f32) (D : Vec Ideal S1x256 .f32) (xs z : Vec Ideal S1x256x256 .f32) (g : Vec Ideal S1x256 .f32) (r d : Fin 256) :
    k0_pay2 (F := Ideal) a b D xs z g (ix2 r d)
      = norm256 (fun k => (a (ix3 0 r k) + b (ix3 0 r k) + D (ix2 0 k) * xs (ix3 0 r k)) * silu (z (ix3 0 r k))) (fun k => g (ix2 0 k)) d := by
  unfold k0_pay2 norm256 silu
  pointwise

/-- The recurrent block without its unit axis. -/
theorem pay3_apply (b : Vec Ideal S1x256x256 .f32) (r d : Fin 256) : k0_pay3 (F := Ideal) b (ix2 r d) = b (ix3 0 r d) := by
  unfold k0_pay3
  pointwise

/-- The recurrent part before its norm. -/
theorem pay4_apply (v : FVec Ideal S256x256 .f32) (b : Vec Ideal S1x256x256 .f32) (r d : Fin 256) :
    k0_pay4 (F := Ideal) v b (ix2 r d) = v (ix2 r d) + b (ix3 0 r d) := by
  unfold k0_pay4
  pointwise

/-- The input of the gate. -/
theorem pay10_apply (s : Vec Ideal S1x256x256 .f32) (D : Vec Ideal S1x256 .f32) (u : Vec Ideal S1x256x256 .f32) (r d : Fin 256) :
    k0_pay10 (F := Ideal) s D u (ix2 r d) = gelu (s (ix3 0 r d) + D (ix2 0 d) * u (ix3 0 r d)) := by
  unfold k0_pay10 gelu
  rw [← one]
  pointwise
  rfl

/-- The head that a lane belongs to, as the kernel computes it. -/
theorem pay5_apply (d : Fin 256) : k0_pay5 (ix2 0 d) = BitVec.ofNat 32 (d.val / 64) := by
  unfold k0_pay5
  pointwise
  revert d
  decide +kernel

/-- The recurrent part's four means are chosen by the lane's head. -/
theorem pay9_apply (v : FVec Ideal S256x256 .f32) (b : Vec Ideal S1x256x256 .f32) (g : Vec Ideal S1x256 .f32) (z : Vec Ideal S1x256x256 .f32) (r d : Fin 256) :
    k0_pay9 (F := Ideal) (k0_pay4 v b) k0_pay5 (k0_pay6 v b) (k0_pay7 v b) k0_pay8 g z (ix2 r d)
      = norm64 (fun k => k0_pay4 (F := Ideal) v b (ix2 r k)) (fun k => g (ix2 0 k)) d * silu (z (ix3 0 r d)) := by
  unfold k0_pay9 k0_pay6 k0_pay7 k0_pay8 norm64 silu lane
  generalize k0_pay4 (F := Ideal) v b = o
  have e5 := pay5_apply d
  generalize k0_pay5 = q at e5 ⊢
  pointwise
  rw [e5]
  have hd := d.isLt
  obtain h | h | h | h : d.val / 64 = 0 ∨ d.val / 64 = 1 ∨ d.val / 64 = 2 ∨ d.val / 64 = 3 := by omega
  all_goals simp [h, Scalar.select, IntOp.cmpi]

/-- The store, from the three computed parts. -/
theorem pay1_apply (p q y : FVec Ideal S256x256 .f32) (w : Vec Ideal S256x256 .bf16) (b : Vec Ideal S1x256 .f32) (a : Vec Ideal S1x256x256 .f32)
    (h : Vec Ideal S1x256x1024 .f32) (mo : Vec Ideal S1x1x1024 .f32) (W : Vec Ideal S1024x1024 .bf16) (r : Fin 256) (n : Fin 1024) :
    k0_pay1 (F := Ideal) p q y w b a h mo W (ix3 0 r n)
      = h (ix3 0 r n) + mo (ix3 0 0 n) * ∑ d, side (fun k => p (ix2 r k)) (fun k => q (ix2 r k)) (fun k => a (ix3 0 r k))
          (gate (fun k => y (ix2 r k)) (fun k d => w (ix2 k d)) (fun k => b (ix2 0 k))) d * W (ix2 d n) := by
  unfold k0_pay1
  pointwise
  rfl

end Cert.Mix
-- ==== Proof.MixRead.lean ====
module

public import proofs.«01_k».proof.Proof.MixPay
public import proofs.«01_k».proof.Proof.Gen.MixPostRefIdeal.Run

@[expose] public section

set_option maxRecDepth 16384

noncomputable section

/-! The output mixing: what the reference holds, at an index. -/

namespace Cert.Mix

open Idealize.ShloMosaic Idealize.SL.Sem Idealize.ShloMosaic.TcCoe
open Cert.MixPostRefIdeal Cert.MixPostRefIdeal.Gen Cert.MixPostRefIdeal.Value

/-- A slab times its logistic. -/
def siluV (x : Vec Ideal S2x8192x256 .f32) : Vec Ideal S2x8192x256 .f32 :=
  (mulf (F := Ideal) (φ := .f32) x (Host.divf (F := Ideal) (φ := .f32) (broadcastInDim S2x8192x256 ![] bcast_S_S2x8192x256 (constant (F := Ideal) S_ .f32 0x3F800000#32)) (addf (F := Ideal) (φ := .f32) (broadcastInDim S2x8192x256 ![] bcast_S_S2x8192x256 (constant (F := Ideal) S_ .f32 0x3F800000#32)) (Host.exp (F := Ideal) (φ := .f32) (Host.negf (F := Ideal) (φ := .f32) x)))))

/-- The scan's two directions and its skip, per head. -/
def scanV (a b : Vec Ideal S2x8448x256 .f32) (D : Vec Ideal S4 .f32) (xs : Vec Ideal S2x8448x768 .f32) : Vec Ideal S2x8192x256 .f32 :=
  (shapeCast S2x8192x256 (addf (F := Ideal) (φ := .f32) (shapeCast S2x8192x4x64 (extractStridedSlice S2x8192x256 ![0, 0, 0] (addf (F := Ideal) (φ := .f32) a b) slices_S2x8448x256_S2x8192x256_0_0_0) shapeCasts_S2x8192x256_S2x8192x4x64) (mulf (F := Ideal) (φ := .f32) (broadcastInDim S2x8192x4x64 ![0, 1, 2, 3] bcast_S1x1x4x1_S2x8192x4x64_0_1_2_3 (broadcastInDim S1x1x4x1 ![2, 3] bcast_S4x1_S1x1x4x1_2_3 (broadcastInDim S4x1 ![0] bcast_S4_S4x1_0 D))) (shapeCast S2x8192x4x64 (extractStridedSlice S2x8192x256 ![0, 0, 0] xs slices_S2x8448x768_S2x8192x256_0_0_0) shapeCasts_S2x8192x256_S2x8192x4x64))) shapeCasts_S2x8192x4x64_S2x8192x256)

/-- A slab normed over its lanes. -/
def normV (x : Vec Ideal S2x8192x256 .f32) (g : Vec Ideal S256 .f32) : Vec Ideal S2x8192x256 .f32 :=
  (mulf (F := Ideal) (φ := .f32) (mulf (F := Ideal) (φ := .f32) x (broadcastInDim S2x8192x256 ![0, 1, 2] bcast_S2x8192x1_S2x8192x256_0_1_2 (Host.rsqrt (F := Ideal) (φ := .f32) (addf (F := Ideal) (φ := .f32) (Host.divf (F := Ideal) (φ := .f32) (broadcastInDim S2x8192x1 ![0, 1] bcast_S2x8192_S2x8192x1_0_1 (Host.reduceAdd (F := Ideal) (φ := .f32) (mulf (F := Ideal) (φ := .f32) x x) (constant (F := Ideal) S_ .f32 0x00000000#32) reducesTo_S2x8192x256_S2x8192_d2 h_S_)) (broadcastInDim S2x8192x1 ![] bcast_S_S2x8192x1 (constant (F := Ideal) S_ .f32 0x43800000#32))) (broadcastInDim S2x8192x1 ![] bcast_S_S2x8192x1 (constant (F := Ideal) S_ .f32 0x358637BD#32)))))) (broadcastInDim S2x8192x256 ![0, 1, 2] bcast_S1x1x256_S2x8192x256_0_1_2 (broadcastInDim S1x1x256 ![2] bcast_S256_S1x1x256_2 g)))

/-- The recurrence's two directions. -/
def sumV (a b : Vec Ideal S2x8448x256 .f32) : Vec Ideal S2x8192x256 .f32 :=
  (extractStridedSlice S2x8192x256 ![0, 0, 0] (addf (F := Ideal) (φ := .f32) a b) slices_S2x8448x256_S2x8192x256_0_0_0)

/-- A slab normed within each head. -/
def headV (x : Vec Ideal S2x8192x256 .f32) (g : Vec Ideal S64 .f32) : Vec Ideal S2x8192x256 .f32 :=
  (shapeCast S2x8192x256 (mulf (F := Ideal) (φ := .f32) (mulf (F := Ideal) (φ := .f32) (shapeCast S2x8192x4x64 x shapeCasts_S2x8192x256_S2x8192x4x64) (broadcastInDim S2x8192x4x64 ![0, 1, 2, 3] bcast_S2x8192x4x1_S2x8192x4x64_0_1_2_3 (Host.rsqrt (F := Ideal) (φ := .f32) (addf (F := Ideal) (φ := .f32) (Host.divf (F := Ideal) (φ := .f32) (broadcastInDim S2x8192x4x1 ![0, 1, 2] bcast_S2x8192x4_S2x8192x4x1_0_1_2 (Host.reduceAdd (F := Ideal) (φ := .f32) (mulf (F := Ideal) (φ := .f32) (shapeCast S2x8192x4x64 x shapeCasts_S2x8192x256_S2x8192x4x64) (shapeCast S2x8192x4x64 x shapeCasts_S2x8192x256_S2x8192x4x64)) (constant (F := Ideal) S_ .f32 0x00000000#32) reducesTo_S2x8192x4x64_S2x8192x4_d3 h_S_)) (broadcastInDim S2x8192x4x1 ![] bcast_S_S2x8192x4x1 (constant (F := Ideal) S_ .f32 0x42800000#32))) (broadcastInDim S2x8192x4x1 ![] bcast_S_S2x8192x4x1 (constant (F := Ideal) S_ .f32 0x358637BD#32)))))) (broadcastInDim S2x8192x4x64 ![0, 1, 2, 3] bcast_S1x1x1x64_S2x8192x4x64_0_1_2_3 (broadcastInDim S1x1x1x64 ![3] bcast_S64_S1x1x1x64_3 g))) shapeCasts_S2x8192x4x64_S2x8192x256)

/-- The state space's output and its skip. -/
def skipV (s : Vec Ideal S2x8448x256 .f32) (D : Vec Ideal S256 .f32) (u : Vec Ideal S2x8192x256 .f32) : Vec Ideal S2x8192x256 .f32 :=
  (addf (F := Ideal) (φ := .f32) (extractStridedSlice S2x8192x256 ![0, 0, 0] s slices_S2x8448x256_S2x8192x256_0_0_0) (mulf (F := Ideal) (φ := .f32) (broadcastInDim S2x8192x256 ![0, 1, 2] bcast_S1x1x256_S2x8192x256_0_1_2 (broadcastInDim S1x1x256 ![2] bcast_S256_S1x1x256_2 D)) u))

/-- The gelu of a slab. -/
def geluV (x : Vec Ideal S2x8192x256 .f32) : Vec Ideal S2x8192x256 .f32 :=
  (mulf (F := Ideal) (φ := .f32) (mulf (F := Ideal) (φ := .f32) (broadcastInDim S2x8192x256 ![] bcast_S_S2x8192x256 (constant (F := Ideal) S_ .f32 0x3F000000#32)) x) (Host.erfc (F := Ideal) (φ := .f32) (mulf (F := Ideal) (φ := .f32) (Host.negf (F := Ideal) (φ := .f32) x) (broadcastInDim S2x8192x256 ![] bcast_S_S2x8192x256 (constant (F := Ideal) S_ .f32 0x3F3504F3#32)))))

/-- A slab gated by its linear image. -/
def gateV (x : Vec Ideal S2x8192x256 .f32) (w : Vec Ideal S256x256 .f32) (b : Vec Ideal S256 .f32) : Vec Ideal S2x8192x256 .f32 :=
  (mulf (F := Ideal) (φ := .f32) x (Host.divf (F := Ideal) (φ := .f32) (broadcastInDim S2x8192x256 ![] bcast_S_S2x8192x256 (constant (F := Ideal) S_ .f32 0x3F800000#32)) (addf (F := Ideal) (φ := .f32) (broadcastInDim S2x8192x256 ![] bcast_S_S2x8192x256 (constant (F := Ideal) S_ .f32 0x3F800000#32)) (Host.exp (F := Ideal) (φ := .f32) (Host.negf (F := Ideal) (φ := .f32) (addf (F := Ideal) (φ := .f32) (Host.dotGeneral (F := Ideal) (φ₁ := .f32) (φ₂ := .f32) dot_S2x8192x256_S256x256_S2x8192x256_2_0_01_1_n_n none x w) (broadcastInDim S2x8192x256 ![0, 1, 2] bcast_S1x1x256_S2x8192x256_0_1_2 (broadcastInDim S1x1x256 ![2] bcast_S256_S1x1x256_2 b))))))))

/-- Columns of the projection. -/
def colZ (p : Vec Ideal S2x8448x2944 .f32) : Vec Ideal S2x8192x256 .f32 :=
  (extractStridedSlice S2x8192x256 ![0, 0, 768] p slices_S2x8448x2944_S2x8192x256_0_0_768)

/-- Columns of the projection. -/
def colR (p : Vec Ideal S2x8448x2944 .f32) : Vec Ideal S2x8192x256 .f32 :=
  (extractStridedSlice S2x8192x256 ![0, 0, 1280] p slices_S2x8448x2944_S2x8192x256_0_0_1280)

/-- Columns of the projection. -/
def colU (p : Vec Ideal S2x8448x2944 .f32) : Vec Ideal S2x8192x256 .f32 :=
  (extractStridedSlice S2x8192x256 ![0, 0, 1792] p slices_S2x8448x2944_S2x8192x256_0_0_1792)

/-- The four parts side by side, mixed and added. -/
def res (h : Vec Ideal S2x8192x1024 .f32) (mo : Vec Ideal S2x1x1024 .f32) (p q r s : Vec Ideal S2x8192x256 .f32) (w : Vec Ideal S1024x1024 .f32) : Vec Ideal S2x8192x1024 .f32 :=
  (addf (F := Ideal) (φ := .f32) h (mulf (F := Ideal) (φ := .f32) (broadcastInDim S2x8192x1024 ![0, 1, 2] bcast_S2x1x1024_S2x8192x1024_0_1_2 mo) (Host.dotGeneral (F := Ideal) (φ₁ := .f32) (φ₂ := .f32) dot_S2x8192x1024_S1024x1024_S2x8192x1024_2_0_01_1_n_n none (concatenate S2x8192x1024 2 [⟨S2x8192x256, p⟩, ⟨S2x8192x256, q⟩, ⟨S2x8192x256, r⟩, ⟨S2x8192x256, s⟩] concatenates_S2x8192x256_S2x8192x256_S2x8192x256_S2x8192x256_S2x8192x1024_d2) w)))

/-- The reference's result from its memory. -/
def ref (m : (ℓ : Loc nD τ sig) → Buf (Elt Ideal) ℓ) (c : Dev nD) : Vec Ideal S2x8192x1024 .f32 :=
  res (m ((c.tc : Thread nD τ).loc main_arg0)) (m ((c.tc : Thread nD τ).loc main_arg16))
    (normV (mulf (F := Ideal) (φ := .f32) (scanV (m ((c.tc : Thread nD τ).loc main_arg3)) (m ((c.tc : Thread nD τ).loc main_arg4)) (m ((c.tc : Thread nD τ).loc main_arg9)) (m ((c.tc : Thread nD τ).loc main_arg2))) (siluV (colZ (m ((c.tc : Thread nD τ).loc main_arg1))))) (m ((c.tc : Thread nD τ).loc main_arg10)))
    (mulf (F := Ideal) (φ := .f32) (headV (sumV (m ((c.tc : Thread nD τ).loc main_arg5)) (m ((c.tc : Thread nD τ).loc main_arg6))) (m ((c.tc : Thread nD τ).loc main_arg11))) (siluV (colR (m ((c.tc : Thread nD τ).loc main_arg1))))) (m ((c.tc : Thread nD τ).loc main_arg7))
    (gateV (geluV (skipV (m ((c.tc : Thread nD τ).loc main_arg8)) (m ((c.tc : Thread nD τ).loc main_arg12)) (colU (m ((c.tc : Thread nD τ).loc main_arg1))))) (m ((c.tc : Thread nD τ).loc main_arg13)) (m ((c.tc : Thread nD τ).loc main_arg14))) (m ((c.tc : Thread nD τ).loc main_arg15))

/-- It is what the reference is said to return. -/
theorem ref_eq (m : (ℓ : Loc nD τ sig) → Buf (Elt Ideal) ℓ) (c : Dev nD) : res_main_v75 m c = ref m c := rfl

/-- A slab times its logistic, at an index. -/
theorem siluV_apply (x : Vec Ideal S2x8192x256 .f32) (b : Fin 2) (R : Fin 8192) (d : Fin 256) :
    siluV x (ix3 b R d) = silu (x (ix3 b R d)) := by
  unfold siluV silu
  pointwise
  rfl

/-- The scan at an index. -/
theorem scanV_apply (a e : Vec Ideal S2x8448x256 .f32) (D : Vec Ideal S4 .f32) (xs : Vec Ideal S2x8448x768 .f32) (b : Fin 2) (R : Fin 8192) (d : Fin 256) :
    scanV a e D xs (ix3 b R d) = a (ix3 b ⟨R.val, by omega⟩ ⟨d.val, by omega⟩) + e (ix3 b ⟨R.val, by omega⟩ ⟨d.val, by omega⟩) + D (ix1 ⟨d.val / 64, by omega⟩) * xs (ix3 b ⟨R.val, by omega⟩ ⟨d.val, by omega⟩) := by
  unfold scanV
  pointwise

/-- The norm at an index. -/
theorem normV_apply (x : Vec Ideal S2x8192x256 .f32) (g : Vec Ideal S256 .f32) (b : Fin 2) (R : Fin 8192) (d : Fin 256) :
    normV x g (ix3 b R d) = norm256 (fun k => x (ix3 b R k)) (fun k => g (ix1 k)) d := by
  unfold normV norm256
  pointwise

/-- The recurrence at an index. -/
theorem sumV_apply (a e : Vec Ideal S2x8448x256 .f32) (b : Fin 2) (R : Fin 8192) (d : Fin 256) :
    sumV a e (ix3 b R d) = a (ix3 b ⟨R.val, by omega⟩ d) + e (ix3 b ⟨R.val, by omega⟩ d) := by
  unfold sumV
  pointwise

/-- The norm within a head, at an index. -/
theorem headV_apply (x : Vec Ideal S2x8192x256 .f32) (g : Vec Ideal S64 .f32) (b : Fin 2) (R : Fin 8192) (d : Fin 256) :
    headV x g (ix3 b R d) = norm64 (fun k => x (ix3 b R k)) (fun k => g (ix1 ⟨k.val % 64, by omega⟩)) d := by
  unfold headV norm64 lane
  pointwise

/-- The skip at an index. -/
theorem skipV_apply (s : Vec Ideal S2x8448x256 .f32) (D : Vec Ideal S256 .f32) (u : Vec Ideal S2x8192x256 .f32) (b : Fin 2) (R : Fin 8192) (d : Fin 256) :
    skipV s D u (ix3 b R d) = s (ix3 b ⟨R.val, by omega⟩ d) + D (ix1 d) * u (ix3 b R d) := by
  unfold skipV
  pointwise

/-- The gelu at an index. -/
theorem geluV_apply (x : Vec Ideal S2x8192x256 .f32) (b : Fin 2) (R : Fin 8192) (d : Fin 256) :
    geluV x (ix3 b R d) = gelu (x (ix3 b R d)) := by
  unfold geluV gelu
  pointwise
  rw [EReal.neg_mul, Ideal.erfc_neg]

/-- The gate at an index. -/
theorem gateV_apply (x : Vec Ideal S2x8192x256 .f32) (w : Vec Ideal S256x256 .f32) (b' : Vec Ideal S256 .f32) (b : Fin 2) (R : Fin 8192) (d : Fin 256) :
    gateV x w b' (ix3 b R d) = gate (fun k => x (ix3 b R k)) (fun k d => w (ix2 k d)) (fun k => b' (ix1 k)) d := by
  unfold gateV gate
  pointwise
  rfl

/-- Columns of the projection, at an index. -/
theorem colZ_apply (p : Vec Ideal S2x8448x2944 .f32) (b : Fin 2) (R : Fin 8192) (d : Fin 256) :
    colZ p (ix3 b R d) = p (ix3 b ⟨R.val, by omega⟩ ⟨768 + d.val, by omega⟩) := by
  unfold colZ
  pointwise

/-- Columns of the projection, at an index. -/
theorem colR_apply (p : Vec Ideal S2x8448x2944 .f32) (b : Fin 2) (R : Fin 8192) (d : Fin 256) :
    colR p (ix3 b R d) = p (ix3 b ⟨R.val, by omega⟩ ⟨1280 + d.val, by omega⟩) := by
  unfold colR
  pointwise

/-- Columns of the projection, at an index. -/
theorem colU_apply (p : Vec Ideal S2x8448x2944 .f32) (b : Fin 2) (R : Fin 8192) (d : Fin 256) :
    colU p (ix3 b R d) = p (ix3 b ⟨R.val, by omega⟩ ⟨1792 + d.val, by omega⟩) := by
  unfold colU
  pointwise

/-- The result at an index. -/
theorem res_apply (h : Vec Ideal S2x8192x1024 .f32) (mo : Vec Ideal S2x1x1024 .f32) (p q r s : Vec Ideal S2x8192x256 .f32) (w : Vec Ideal S1024x1024 .f32) (b : Fin 2) (R : Fin 8192) (n : Fin 1024) :
    res h mo p q r s w (ix3 b R n) = h (ix3 b R n) + mo (ix3 b 0 n) * ∑ d, side (fun k => p (ix3 b R k)) (fun k => q (ix3 b R k)) (fun k => r (ix3 b R k)) (fun k => s (ix3 b R k)) d * w (ix2 d n) := by
  unfold res
  pointwise
  rfl

end Cert.Mix
-- ==== Proof.MixEq.lean ====
module

public import proofs.«01_k».proof.Proof.MixRead
public import proofs.«01_k».proof.Proof.Gen.MixPostIdeal.Value

@[expose] public section

set_option maxRecDepth 16384

noncomputable section

/-! The mixing kernel's array is the reference's, block by block. -/

namespace Cert.Mix

open Idealize.ShloMosaic Idealize.SL.Sem Idealize.ShloMosaic.TcCoe Idealize.ShloMosaic.Pipeline
open Cert.MixPostIdeal Cert.MixPostIdeal.Gen

variable (m : (ℓ : Loc nD τ sig) → Buf (Elt Ideal) ℓ)

/-- The windows' blocks at a grid point: 32 blocks of rows for each of two batches. -/
theorem idx : ∀ t : Fin cfg0.N, win0_0.index t = ![t.val / 32, t.val % 32, 0]
    ∧ win0_1.index t = ![t.val / 32, t.val % 32, 0]
    ∧ win0_2.index t = ![t.val / 32, t.val % 32, 3]
    ∧ win0_3.index t = ![t.val / 32, t.val % 32, 5]
    ∧ win0_4.index t = ![t.val / 32, t.val % 32, 7]
    ∧ win0_5.index t = ![t.val / 32, t.val % 32, 0]
    ∧ win0_6.index t = ![t.val / 32, t.val % 32, 0]
    ∧ win0_7.index t = ![t.val / 32, t.val % 32, 0]
    ∧ win0_8.index t = ![t.val / 32, t.val % 32, 0]
    ∧ win0_9.index t = ![t.val / 32, t.val % 32, 0]
    ∧ win0_10.index t = ![t.val / 32, t.val % 32, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val / 32, 0, 0]
    ∧ win0_19.index t = ![t.val / 32, t.val % 32, 0] :=
  (by decide +kernel : ∀ t : Fin grid0.N, _)

section
variable (c : Dev nD) (t : Fin cfg0.N) (h32 : t.val / 32 < 2)

/-- The latent rows. -/
theorem b0 (r : Fin 256) (n : Fin 1024) :
    iblk m c 0 t (ix3 0 r n) = m ((c.tc : Thread nD τ).loc main_arg0) (ix3 ⟨t.val / 32, h32⟩ ⟨t.val % 32 * 256 + r.val, by omega⟩ n) := by
  blk_simp [iblk]
  entry_read
  pointwise
  blk_ext [(idx t).1]

/-- The scan's input. -/
theorem b1 (r k : Fin 256) :
    iblk m c 1 t (ix3 0 r k) = m ((c.tc : Thread nD τ).loc main_arg2) (ix3 ⟨t.val / 32, h32⟩ ⟨t.val % 32 * 256 + r.val, by omega⟩ ⟨k.val, by omega⟩) := by
  blk_simp [iblk]
  entry_read
  pointwise
  blk_ext [(idx t).2.1]

/-- Columns of the projection. -/
theorem b2 (r k : Fin 256) :
    X0_2 m c t (ix3 0 r k) = m ((c.tc : Thread nD τ).loc main_arg1) (ix3 ⟨t.val / 32, h32⟩ ⟨t.val % 32 * 256 + r.val, by omega⟩ ⟨768 + k.val, by omega⟩) := by
  unfold X0_2 Window.fill
  rw [dif_pos (moved0_2 t _)]
  blk_simp [iblk]
  entry_read
  pointwise
  blk_ext [(idx t).2.2.1]

/-- Columns of the projection. -/
theorem b3 (r k : Fin 256) :
    X0_3 m c t (ix3 0 r k) = m ((c.tc : Thread nD τ).loc main_arg1) (ix3 ⟨t.val / 32, h32⟩ ⟨t.val % 32 * 256 + r.val, by omega⟩ ⟨1280 + k.val, by omega⟩) := by
  unfold X0_3 Window.fill
  rw [dif_pos (moved0_3 t _)]
  blk_simp [iblk]
  entry_read
  pointwise
  blk_ext [(idx t).2.2.2.1]

/-- Columns of the projection. -/
theorem b4 (r k : Fin 256) :
    X0_4 m c t (ix3 0 r k) = m ((c.tc : Thread nD τ).loc main_arg1) (ix3 ⟨t.val / 32, h32⟩ ⟨t.val % 32 * 256 + r.val, by omega⟩ ⟨1792 + k.val, by omega⟩) := by
  unfold X0_4 Window.fill
  rw [dif_pos (moved0_4 t _)]
  blk_simp [iblk]
  entry_read
  pointwise
  blk_ext [(idx t).2.2.2.2.1]

/-- The scan, forward. -/
theorem b5 (r k : Fin 256) :
    iblk m c 5 t (ix3 0 r k) = m ((c.tc : Thread nD τ).loc main_arg3) (ix3 ⟨t.val / 32, h32⟩ ⟨t.val % 32 * 256 + r.val, by omega⟩ k) := by
  blk_simp [iblk]
  entry_read
  pointwise
  blk_ext [(idx t).2.2.2.2.2.1]

/-- The scan, backward. -/
theorem b6 (r k : Fin 256) :
    iblk m c 6 t (ix3 0 r k) = m ((c.tc : Thread nD τ).loc main_arg4) (ix3 ⟨t.val / 32, h32⟩ ⟨t.val % 32 * 256 + r.val, by omega⟩ k) := by
  blk_simp [iblk]
  entry_read
  pointwise
  blk_ext [(idx t).2.2.2.2.2.2.1]

/-- The recurrence, forward. -/
theorem b7 (r k : Fin 256) :
    iblk m c 7 t (ix3 0 r k) = m ((c.tc : Thread nD τ).loc main_arg5) (ix3 ⟨t.val / 32, h32⟩ ⟨t.val % 32 * 256 + r.val, by omega⟩ k) := by
  blk_simp [iblk]
  entry_read
  pointwise
  blk_ext [(idx t).2.2.2.2.2.2.2.1]

/-- The recurrence, backward. -/
theorem b8 (r k : Fin 256) :
    iblk m c 8 t (ix3 0 r k) = m ((c.tc : Thread nD τ).loc main_arg6) (ix3 ⟨t.val / 32, h32⟩ ⟨t.val % 32 * 256 + r.val, by omega⟩ k) := by
  blk_simp [iblk]
  entry_read
  pointwise
  blk_ext [(idx t).2.2.2.2.2.2.2.2.1]

/-- The attention's output. -/
theorem b9 (r k : Fin 256) :
    iblk m c 9 t (ix3 0 r k) = m ((c.tc : Thread nD τ).loc main_arg7) (ix3 ⟨t.val / 32, h32⟩ ⟨t.val % 32 * 256 + r.val, by omega⟩ k) := by
  blk_simp [iblk]
  entry_read
  pointwise
  blk_ext [(idx t).2.2.2.2.2.2.2.2.2.1]

/-- The state space's output. -/
theorem b10 (r k : Fin 256) :
    iblk m c 10 t (ix3 0 r k) = m ((c.tc : Thread nD τ).loc main_arg8) (ix3 ⟨t.val / 32, h32⟩ ⟨t.val % 32 * 256 + r.val, by omega⟩ k) := by
  blk_simp [iblk]
  entry_read
  pointwise
  blk_ext [(idx t).2.2.2.2.2.2.2.2.2.2.1]

/-- The scan's skip weight, one per head. -/
theorem b11 (k : Fin 256) :
    iblk m c 11 t (ix2 0 k) = m ((c.tc : Thread nD τ).loc main_arg9) (ix1 ⟨k.val / 64, by omega⟩) := by
  blk_simp [iblk]
  entry_read
  pointwise
  blk_ext [(idx t).2.2.2.2.2.2.2.2.2.2.2.1]

/-- The scan's norm. -/
theorem b12 (k : Fin 256) :
    iblk m c 12 t (ix2 0 k) = m ((c.tc : Thread nD τ).loc main_arg10) (ix1 k) := by
  blk_simp [iblk]
  entry_read
  pointwise
  blk_ext [(idx t).2.2.2.2.2.2.2.2.2.2.2.2.1]

/-- The recurrence's norm, the same for each head. -/
theorem b13 (k : Fin 256) :
    iblk m c 13 t (ix2 0 k) = m ((c.tc : Thread nD τ).loc main_arg11) (ix1 ⟨k.val % 64, by omega⟩) := by
  blk_simp [iblk]
  entry_read
  pointwise
  blk_ext [(idx t).2.2.2.2.2.2.2.2.2.2.2.2.2.1]

/-- The state space's skip weight. -/
theorem b14 (k : Fin 256) :
    iblk m c 14 t (ix2 0 k) = m ((c.tc : Thread nD τ).loc main_arg12) (ix1 k) := by
  blk_simp [iblk]
  entry_read
  pointwise
  blk_ext [(idx t).2.2.2.2.2.2.2.2.2.2.2.2.2.2.1]

/-- The gate's weights. -/
theorem b15 (k d : Fin 256) :
    iblk m c 15 t (ix2 k d) = m ((c.tc : Thread nD τ).loc main_arg13) (ix2 k d) := by
  blk_simp [iblk]
  entry_read
  pointwise
  blk_ext [(idx t).2.2.2.2.2.2.2.2.2.2.2.2.2.2.2.1]

/-- The gate's bias. -/
theorem b16 (k : Fin 256) :
    iblk m c 16 t (ix2 0 k) = m ((c.tc : Thread nD τ).loc main_arg14) (ix1 k) := by
  blk_simp [iblk]
  entry_read
  pointwise
  blk_ext [(idx t).2.2.2.2.2.2.2.2.2.2.2.2.2.2.2.2.1]

/-- The mixing weights. -/
theorem b17 (k n : Fin 1024) :
    iblk m c 17 t (ix2 k n) = m ((c.tc : Thread nD τ).loc main_arg15) (ix2 k n) := by
  blk_simp [iblk]
  entry_read
  pointwise
  blk_ext [(idx t).2.2.2.2.2.2.2.2.2.2.2.2.2.2.2.2.2.1]

/-- The modulation of the batch. -/
theorem b18 (n : Fin 1024) :
    iblk m c 18 t (ix3 0 0 n) = m ((c.tc : Thread nD τ).loc main_arg16) (ix3 ⟨t.val / 32, h32⟩ 0 n) := by
  blk_simp [iblk]
  entry_read
  pointwise
  blk_ext [(idx t).2.2.2.2.2.2.2.2.2.2.2.2.2.2.2.2.2.2.1]

end

/-- The kernel's array is the reference's result. -/
theorem equal (c : Dev nD) :
    (dats m 0 c).arrAt 19 cfg0.N = res (m ((c.tc : Thread nD τ).loc main_arg0)) (m ((c.tc : Thread nD τ).loc main_arg16))
      (normV (mulf (F := Ideal) (φ := .f32) (scanV (m ((c.tc : Thread nD τ).loc main_arg3)) (m ((c.tc : Thread nD τ).loc main_arg4)) (m ((c.tc : Thread nD τ).loc main_arg9)) (m ((c.tc : Thread nD τ).loc main_arg2))) (siluV (colZ (m ((c.tc : Thread nD τ).loc main_arg1))))) (m ((c.tc : Thread nD τ).loc main_arg10)))
      (mulf (F := Ideal) (φ := .f32) (headV (sumV (m ((c.tc : Thread nD τ).loc main_arg5)) (m ((c.tc : Thread nD τ).loc main_arg6))) (m ((c.tc : Thread nD τ).loc main_arg11))) (siluV (colR (m ((c.tc : Thread nD τ).loc main_arg1))))) (m ((c.tc : Thread nD τ).loc main_arg7))
      (gateV (geluV (skipV (m ((c.tc : Thread nD τ).loc main_arg8)) (m ((c.tc : Thread nD τ).loc main_arg12)) (colU (m ((c.tc : Thread nD τ).loc main_arg1))))) (m ((c.tc : Thread nD τ).loc main_arg13)) (m ((c.tc : Thread nD τ).loc main_arg14))) (m ((c.tc : Thread nD τ).loc main_arg15)) := by
  refine (dats m 0 c).arrAt_eq_of_covers 19 _ (by decide +kernel) fun t hf y => ?_
  blk_simp
  rw [after0_19]
  unfold outsAt0
  frame_out
  obtain ⟨z, r, n, rfl⟩ : ∃ (z : Fin 1) (r : Fin 256) (n : Fin 1024), y = ix3 z r n := ⟨y 0, y 1, y 2, by funext a; fin_cases a <;> rfl⟩
  obtain rfl : z = 0 := Subsingleton.elim _ _
  have ht : t.val < 64 := t.isLt
  have h32 : t.val / 32 < 2 := by omega
  have e : ((cfg0.win 19).blk t).view.emb (ix3 0 r n) = ix3 (⟨t.val / 32, h32⟩ : Fin 2) (⟨t.val % 32 * 256 + r.val, by omega⟩ : Fin 8192) n := by
    blk_ext [(idx t).2.2.2.2.2.2.2.2.2.2.2.2.2.2.2.2.2.2.2]
  rw [e]
  refine (pay1_apply _ _ _ _ _ _ _ _ _ r n).trans ?_
  rw [res_apply, b0 m c t h32, b18 m c t h32]
  refine congrArg₂ _ rfl (congrArg₂ _ rfl (Finset.sum_congr rfl fun d _ => congrArg₂ _ ?_ (b17 m c t d n)))
  refine congrFun (congr (congr (congrArg₂ side ?_ ?_) ?_) ?_) d <;> funext k
  · refine (pay2_apply _ _ _ _ _ _ r k).trans ?_
    rw [normV_apply]
    simp only [mulf_apply, scanV_apply, siluV_apply, colZ_apply, b1 m c t h32, b2 m c t h32, b5 m c t h32, b6 m c t h32, b11 m c t, b12 m c t]
    rfl
  · refine (pay9_apply _ _ _ _ r k).trans ?_
    simp only [mulf_apply, headV_apply, sumV_apply, siluV_apply, colR_apply, pay4_apply, pay3_apply, b3 m c t h32, b7 m c t h32, b8 m c t h32, b13 m c t]
    rfl
  · exact b9 m c t h32 r k
  · rw [gateV_apply]
    simp only [pay10_apply, geluV_apply, skipV_apply, colU_apply, b4 m c t h32, b10 m c t h32, b14 m c t, b15 m c t, b16 m c t]

end Cert.Mix
-- ==== Proof.NormRead.lean ====
module

public import proofs.«01_k».proof.Proof.Gen.FinalNormIdeal.Value
public import proofs.«01_k».proof.Proof.Gen.FinalNormRefIdeal.Run
public import Idealize.ShloMosaic.Lib.Pipeline.ValueKit
public import proofs.«01_k».proof.Proof.Rms

@[expose] public section

set_option maxRecDepth 16384

noncomputable section

/-! The final norm: what a grid point stores and what the reference holds, each at an index. -/

namespace Cert.Norm

open Idealize.ShloMosaic Idealize.SL.Sem Idealize.ShloMosaic.TcCoe

/-- The kernel's block: each row normed, times the weights. -/
theorem pay_apply (x : Vec Ideal Cert.FinalNormIdeal.S512x1024 .f32) (g : Vec Ideal Cert.FinalNormIdeal.S1x1024 .f32) (r : Fin 512) (d : Fin 1024) :
    Cert.FinalNormIdeal.Gen.k0_pay1 (F := Ideal) x g (ix2 r d) = rms (fun k => x (ix2 r k)) d * g (ix2 0 d) := by
  unfold Cert.FinalNormIdeal.Gen.k0_pay1 rms
  pointwise

section
open Cert.FinalNormRefIdeal Cert.FinalNormRefIdeal.Gen

/-- The reference's result from its two arguments. -/
def res (h : Vec Ideal S2x8192x1024 .f32) (g : Vec Ideal S1024 .f32) : Vec Ideal S16384x1024 .f32 :=
  shapeCast _ (mulf (F := Ideal) (φ := .f32) (mulf (F := Ideal) (φ := .f32) h (broadcastInDim S2x8192x1024 ![0, 1, 2] bcast_S2x8192x1_S2x8192x1024_0_1_2 (Host.rsqrt (F := Ideal) (φ := .f32) (addf (F := Ideal) (φ := .f32) (Host.divf (F := Ideal) (φ := .f32) (broadcastInDim S2x8192x1 ![0, 1] bcast_S2x8192_S2x8192x1_0_1 (Host.reduceAdd (F := Ideal) (φ := .f32) (mulf (F := Ideal) (φ := .f32) h h) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))) shapeCasts_S2x8192x1024_S16384x1024

/-- The reference's result at an index. -/
theorem res_apply (h : Vec Ideal S2x8192x1024 .f32) (g : Vec Ideal S1024 .f32) (R : Fin 16384) (d : Fin 1024) :
    res h g (ix2 R d) = rms (fun k => h (ix3 ⟨R.val / 8192, by omega⟩ ⟨R.val % 8192, by omega⟩ k)) d * g (ix1 d) := by
  unfold res rms
  pointwise
end

section
open Cert.FinalNormIdeal Cert.FinalNormIdeal.Gen
variable (m : (ℓ : Loc nD τ sig) → Buf (Elt Ideal) ℓ)

/-- The windows' blocks at a grid point. -/
theorem idx : ∀ t : Fin cfg0.N, win0_0.index t = ![t.val, 0] ∧ win0_1.index t = ![0, 0] ∧ win0_2.index t = ![t.val, 0] :=
  (by decide +kernel : ∀ t : Fin grid0.N, _)

/-- The kernel's array is the reference's result. -/
theorem equal (c : Dev nD) :
    (dats m 0 c).arrAt 2 cfg0.N = res (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, d, rfl⟩ : ∃ (r : Fin 512) (d : Fin 1024), y = ix2 r d := ⟨y 0, y 1, by funext a; fin_cases a <;> rfl⟩
  have ht : t.val < 32 := t.isLt
  have e : ((cfg0.win 2).blk t).view.emb (ix2 r d) = ix2 (⟨t.val * 512 + r.val, by omega⟩ : Fin 16384) d := by
    blk_ext [idx t]
  rw [e, res_apply]
  refine (pay_apply _ _ r d).trans ?_
  have e0 : ∀ k : Fin 1024, iblk m c 0 t (ix2 r k) = m ((c.tc : Thread nD τ).loc main_arg0) (ix3 ⟨(t.val * 512 + r.val) / 8192, by omega⟩ ⟨(t.val * 512 + r.val) % 8192, by omega⟩ k) := by
    intro k
    blk_simp [iblk]
    entry_read
    pointwise
    blk_ext [(idx t).1]
  have e1 : iblk m c 1 t (ix2 0 d) = m ((c.tc : Thread nD τ).loc main_arg1) (ix1 d) := by
    blk_simp [iblk]
    entry_read
    pointwise
    blk_ext [(idx t).2.1]
  simp only [e0, e1]
end

end Cert.Norm
-- ==== Proof.PrepPay.lean ====
module

public import proofs.«01_k».proof.Proof.Gen.PrepIdeal.Value
public import Idealize.ShloMosaic.Lib.Pipeline.ValueKit
public import Idealize.ShloMosaic.Lib.Pipeline.ReadBack
public import Idealize.ShloMosaic.PureOps.Ideal.Laws

@[expose] public section

set_option maxRecDepth 16384

noncomputable section

/-! The queries, keys and values of the attention: what a block holds, at an index. -/

namespace Cert.Lanes

open Idealize.ShloMosaic Idealize.SL.Sem Idealize.ShloMosaic.TcCoe
open Cert.PrepIdeal Cert.PrepIdeal.Gen

/-- A row over the root of its mean square (the row's length is given as a constant's bits), times the weights. -/
def rms {n : ℕ} (w : BitVec 32) (x g : Fin n → EReal) (d : Fin n) : EReal :=
  x d * Ideal.rsqrt (Ideal.div (∑ k, x k * x k) (Ideal.ofBits .f32 w) + Ideal.ofBits .f32 0x358637BD#32) * g d

/-- The normed query rank. -/
theorem pay4_apply (x : Vec Ideal S1x256x256 .f32) (g : Vec Ideal S1x256 .f32) (r d : Fin 256) :
    k0_pay4 x g (ix2 r d) = rms 0x43800000#32 (fun k => x (ix3 0 r k)) (fun k => g (ix2 0 k)) d := by
  unfold k0_pay4 rms
  pointwise

/-- The normed key rank. -/
theorem pay5_apply (x : Vec Ideal S1x256x128 .f32) (g : Vec Ideal S1x128 .f32) (r : Fin 256) (d : Fin 128) :
    k0_pay5 x g (ix2 r d) = rms 0x43000000#32 (fun k => x (ix3 0 r k)) (fun k => g (ix2 0 k)) d := by
  unfold k0_pay5 rms
  pointwise

/-- A query's lane: two products with the weights, each times its table, times the scale. -/
def qlane (x w w' : Fin 256 → EReal) (a b : EReal) : EReal :=
  ((∑ k, x k * w k) * a + (∑ k, x k * w' k) * b) * Ideal.ofBits .f32 0x3DD105EC#32

/-- A key's lane: a product with the weights, and the rotary part. -/
def klane (x w : Fin 128 → EReal) (u a v b : EReal) : EReal :=
  (∑ k, x k * w k) + (u * a + v * b)

/-- A value's lane: a product with the weights, and one in lane 64. -/
def vlane (x w : Fin 128 → EReal) (l : Fin 128) : EReal :=
  (∑ k, x k * w k) + if l.val = 64 then Ideal.ofBits .f32 0x3F800000#32 else Ideal.ofBits .f32 0x00000000#32

/-- The queries of the first head. -/
theorem pay10_apply (x : FVec Ideal S256x256 .bf16) (a b : FVec Ideal S256x128 .f32) (w w' : Vec Ideal S1x256x128 .bf16) (r : Fin 256) (l : Fin 128) :
    k0_pay10 x a b w w' (ix4 0 0 r l) = qlane (fun k => x (ix2 r k)) (fun k => w (ix3 0 k l)) (fun k => w' (ix3 0 k l)) (a (ix2 r l)) (b (ix2 r l)) := by
  unfold k0_pay10 qlane
  pointwise

/-- The keys of the last head. -/
theorem pay2_apply (x : FVec Ideal S256x128 .bf16) (y : FVec Ideal S256x128 .f32) (w : Vec Ideal S1x128x128 .bf16) (r : Fin 256) (l : Fin 128) :
    k0_pay2 x y w (ix4 0 0 r l) = (∑ k, x (ix2 r k) * w (ix3 0 k l)) + y (ix2 r l) := by
  unfold k0_pay2
  pointwise

/-- The rotary part of the keys. -/
theorem pay8_apply (a b : FVec Ideal S256x128 .f32) (u v : Vec Ideal S1x256x128 .f32) (r : Fin 256) (l : Fin 128) :
    k0_pay8 a b u v (ix2 r l) = u (ix3 0 r l) * a (ix2 r l) + v (ix3 0 r l) * b (ix2 r l) := by
  unfold k0_pay8
  pointwise

/-- The values of the last head. -/
theorem pay3_apply (x : FVec Ideal S256x128 .bf16) (w : Vec Ideal S1x128x128 .bf16) (r : Fin 256) (l : Fin 128) :
    k0_pay3 x (k0_pay9 (F := Ideal)) w (ix4 0 0 r l) = vlane (fun k => x (ix2 r k)) (fun k => w (ix3 0 k l)) l := by
  unfold k0_pay3 k0_pay9 vlane
  pointwise
  congr 1
  have e : (BitVec.ofNat 32 l.val = 64#32) ↔ l.val = 64 := by
    constructor
    · intro h
      have h' := congrArg BitVec.toNat h
      simp only [BitVec.toNat_ofNat] at h'
      omega
    · intro h
      rw [h]
  by_cases h : l.val = 64
  · rw [if_pos h, e.mpr h]
    rfl
  · have h' : ¬ BitVec.ofNat 32 l.val = 64#32 := fun x => h (e.mp x)
    have h2 : (BitVec.ofNat 32 l.val == 64#32) = false := beq_eq_false_iff_ne.mpr h'
    rw [if_neg h]
    simp only [IntOp.cmpi, Scalar.select, h2]
    rfl

variable (m : (ℓ : Loc nD τ sig) → Buf (Elt Ideal) ℓ)

/-- Head `n`'s slab of the four heads. -/
def slabR (n : ℕ) (inb : ∀ a, (![0, n, 0, 0] : Fin 4 → ℕ) a + (![1, 1, 256, 128] : Fin 4 → ℕ) a ≤ S1x4x256x128.size a) : Rect S1x4x256x128 :=
  Rect.unit ![0, n, 0, 0] ![1, 1, 256, 128] inb

/-- A vector that is head `n` of `G` is `G` at the places of the slab. -/
theorem slab_emb {G : Vec Ideal S1x4x256x128 .bf16} (n : ℕ) (hn : n < 4)
    (inb : ∀ a, (![0, n, 0, 0] : Fin 4 → ℕ) a + (![1, 1, 256, 128] : Fin 4 → ℕ) a ≤ S1x4x256x128.size a)
    (w : Vec Ideal S1x1x256x128 .bf16) (H : ∀ r l, w (ix4 0 0 r l) = G (ix4 0 ⟨n, hn⟩ r l)) (x : S1x1x256x128.Idx) :
    w x = G ((slabR n inb).emb x) := by
  obtain ⟨z, a, r, l, rfl⟩ : ∃ (z : Fin 1) (a : Fin 1) (r : Fin 256) (l : Fin 128), x = ix4 z a r l :=
    ⟨x 0, x 1, x 2, x 3, by funext a; fin_cases a <;> rfl⟩
  obtain rfl : a = 0 := Subsingleton.elim _ _
  obtain rfl : z = 0 := Subsingleton.elim _ _
  refine (H r l).trans (congrArg G ?_)
  funext b
  fin_cases b <;> apply Fin.ext
  · rfl
  · change n = n + 1 * 0; omega
  · change r.val = 0 + 1 * r.val; omega
  · change l.val = 0 + 1 * l.val; omega

/-- An index of head `n` lies in the slab. -/
theorem slab_mem (j : S1x4x256x128.Idx) (n : ℕ)
    (inb : ∀ a, (![0, n, 0, 0] : Fin 4 → ℕ) a + (![1, 1, 256, 128] : Fin 4 → ℕ) a ≤ S1x4x256x128.size a) (e : (j 1).val = n) :
    j ∈ (slabR n inb).set := by
  rw [slabR, Rect.mem_set_unit]
  intro a
  fin_cases a
  · exact ⟨Nat.zero_le _, lt_of_lt_of_eq (j 0).isLt (Nat.zero_add _).symm⟩
  · change n ≤ (j 1).val ∧ (j 1).val < n + 1; omega
  · exact ⟨Nat.zero_le _, lt_of_lt_of_eq (j 2).isLt (Nat.zero_add _).symm⟩
  · exact ⟨Nat.zero_le _, lt_of_lt_of_eq (j 3).isLt (Nat.zero_add _).symm⟩

/-- The store of head `n`. -/
def slabP (n : ℕ) (inb : ∀ a, (![0, n, 0, 0] : Fin 4 → ℕ) a + (![1, 1, 256, 128] : Fin 4 → ℕ) a ≤ S1x4x256x128.size a)
    (w : Vec Ideal S1x1x256x128 .bf16) : View.Piece (Elt Ideal) S1x4x256x128 (.bf16 : EltTy) := ⟨slabR n inb, w⟩

/-- Four stores of one head each leave the array that each of them is a slab of. -/
theorem slabs {G : Vec Ideal S1x4x256x128 .bf16} {w0 w1 w2 w3 : Vec Ideal S1x1x256x128 .bf16}
    (H3 : ∀ r l, w3 (ix4 0 0 r l) = G (ix4 0 3 r l)) (H2 : ∀ r l, w2 (ix4 0 0 r l) = G (ix4 0 2 r l))
    (H1 : ∀ r l, w1 (ix4 0 0 r l) = G (ix4 0 1 r l)) (H0 : ∀ r l, w0 (ix4 0 0 r l) = G (ix4 0 0 r l)) :
    View.canon [slabP 3 inb_S1x4x256x128_S1x1x256x128_0_3_0_0 w3, slabP 2 inb_S1x4x256x128_S1x1x256x128_0_2_0_0 w2,
      slabP 1 inb_S1x4x256x128_S1x1x256x128_0_1_0_0 w1, slabP 0 inb_S1x4x256x128_S1x1x256x128_0_0_0_0 w0] = G := by
  funext j
  refine View.canon_append_of_piecesOf G [] [slabP 3 inb_S1x4x256x128_S1x1x256x128_0_3_0_0 w3, slabP 2 inb_S1x4x256x128_S1x1x256x128_0_2_0_0 w2,
      slabP 1 inb_S1x4x256x128_S1x1x256x128_0_1_0_0 w1, slabP 0 inb_S1x4x256x128_S1x1x256x128_0_0_0_0 w0] ?_ j ?_
  · exact And.intro (slab_emb 3 (by decide) inb_S1x4x256x128_S1x1x256x128_0_3_0_0 w3 H3) (And.intro (slab_emb 2 (by decide) inb_S1x4x256x128_S1x1x256x128_0_2_0_0 w2 H2)
      (And.intro (slab_emb 1 (by decide) inb_S1x4x256x128_S1x1x256x128_0_1_0_0 w1 H1) (And.intro (slab_emb 0 (by decide) inb_S1x4x256x128_S1x1x256x128_0_0_0_0 w0 H0) trivial)))
  · have hj : (j 1).val < 4 := (j 1).isLt
    rcases (by omega : (j 1).val = 3 ∨ (j 1).val = 2 ∨ (j 1).val = 1 ∨ (j 1).val = 0) with e | e | e | e
    · exact ⟨slabP 3 inb_S1x4x256x128_S1x1x256x128_0_3_0_0 w3, List.mem_cons_self, slab_mem j 3 inb_S1x4x256x128_S1x1x256x128_0_3_0_0 e⟩
    · exact ⟨slabP 2 inb_S1x4x256x128_S1x1x256x128_0_2_0_0 w2, List.mem_cons_of_mem _ List.mem_cons_self, slab_mem j 2 inb_S1x4x256x128_S1x1x256x128_0_2_0_0 e⟩
    · exact ⟨slabP 1 inb_S1x4x256x128_S1x1x256x128_0_1_0_0 w1, List.mem_cons_of_mem _ (List.mem_cons_of_mem _ List.mem_cons_self), slab_mem j 1 inb_S1x4x256x128_S1x1x256x128_0_1_0_0 e⟩
    · exact ⟨slabP 0 inb_S1x4x256x128_S1x1x256x128_0_0_0_0 w0, List.mem_cons_of_mem _ (List.mem_cons_of_mem _ (List.mem_cons_of_mem _ List.mem_cons_self)), slab_mem j 0 inb_S1x4x256x128_S1x1x256x128_0_0_0_0 e⟩

/-- The queries of a block, from the block's inputs. -/
def qBlk (x : Vec Ideal S1x256x256 .f32) (g : Vec Ideal S1x256 .f32) (a b : Vec Ideal S256x128 .f32) (w w' : Vec Ideal S4x256x128 .bf16) : Vec Ideal S1x4x256x128 .bf16 :=
  fun j => qlane (rms 0x43800000#32 (fun k => x (ix3 0 (j 2) k)) (fun k => g (ix2 0 k))) (fun k => w (ix3 (j 1) k (j 3))) (fun k => w' (ix3 (j 1) k (j 3)))
    (a (ix2 (j 2) (j 3))) (b (ix2 (j 2) (j 3)))

/-- The keys of a block, from the block's inputs. -/
def kBlk (x : Vec Ideal S1x256x128 .f32) (g : Vec Ideal S1x128 .f32) (u v : Vec Ideal S1x256x128 .f32) (a b : Vec Ideal S256x128 .f32) (w : Vec Ideal S4x128x128 .bf16) : Vec Ideal S1x4x256x128 .bf16 :=
  fun j => klane (rms 0x43000000#32 (fun k => x (ix3 0 (j 2) k)) (fun k => g (ix2 0 k))) (fun k => w (ix3 (j 1) k (j 3)))
    (u (ix3 0 (j 2) (j 3))) (a (ix2 (j 2) (j 3))) (v (ix3 0 (j 2) (j 3))) (b (ix2 (j 2) (j 3)))

/-- The values of a block, from the block's inputs. -/
def vBlk (x : Vec Ideal S1x256x128 .f32) (g : Vec Ideal S1x128 .f32) (w : Vec Ideal S4x128x128 .bf16) : Vec Ideal S1x4x256x128 .bf16 :=
  fun j => vlane (rms 0x43000000#32 (fun k => x (ix3 0 (j 2) k)) (fun k => g (ix2 0 k))) (fun k => w (ix3 (j 1) k (j 3))) (j 3)

/-- One head's queries, stored from the head's weights. -/
theorem qHead (x : Vec Ideal S1x256x256 .f32) (g : Vec Ideal S1x256 .f32) (a b : Vec Ideal S256x128 .f32) (w w' : Vec Ideal S4x256x128 .bf16)
    (h : Fin 4) {u u' : Vec Ideal S1x256x128 .bf16} (hu : ∀ k l, u (ix3 0 k l) = w (ix3 h k l)) (hu' : ∀ k l, u' (ix3 0 k l) = w' (ix3 h k l)) (r : Fin 256) (l : Fin 128) :
    k0_pay10 (k0_pay4 x g) (k0_pay6 a) (k0_pay7 b) u u' (ix4 0 0 r l) = qBlk x g a b w w' (ix4 0 h r l) := by
  refine (pay10_apply _ _ _ _ _ r l).trans ?_
  have e6 : k0_pay6 a (ix2 r l) = a (ix2 r l) := by unfold k0_pay6; pointwise
  have e7 : k0_pay7 b (ix2 r l) = b (ix2 r l) := by unfold k0_pay7; pointwise
  simp only [hu, hu', e6, e7, pay4_apply]
  rfl

/-- One head's keys, stored from the head's weights. -/
theorem kHead (x : Vec Ideal S1x256x128 .f32) (g : Vec Ideal S1x128 .f32) (p q : Vec Ideal S1x256x128 .f32) (a b : Vec Ideal S256x128 .f32) (w : Vec Ideal S4x128x128 .bf16)
    (h : Fin 4) {u : Vec Ideal S1x128x128 .bf16} (hu : ∀ k l, u (ix3 0 k l) = w (ix3 h k l)) (r : Fin 256) (l : Fin 128) :
    k0_pay2 (k0_pay5 x g) (k0_pay8 (k0_pay6 a) (k0_pay7 b) p q) u (ix4 0 0 r l) = kBlk x g p q a b w (ix4 0 h r l) := by
  refine (pay2_apply _ _ _ r l).trans ?_
  have e6 : k0_pay6 a (ix2 r l) = a (ix2 r l) := by unfold k0_pay6; pointwise
  have e7 : k0_pay7 b (ix2 r l) = b (ix2 r l) := by unfold k0_pay7; pointwise
  simp only [hu, e6, e7, pay5_apply, pay8_apply]
  rfl

/-- One head's values, stored from the head's weights. -/
theorem vHead (x : Vec Ideal S1x256x128 .f32) (g : Vec Ideal S1x128 .f32) (w : Vec Ideal S4x128x128 .bf16)
    (h : Fin 4) {u : Vec Ideal S1x128x128 .bf16} (hu : ∀ k l, u (ix3 0 k l) = w (ix3 h k l)) (r : Fin 256) (l : Fin 128) :
    k0_pay3 (k0_pay5 x g) (k0_pay9 (F := Ideal)) u (ix4 0 0 r l) = vBlk x g w (ix4 0 h r l) := by
  refine (pay3_apply _ _ r l).trans ?_
  simp only [hu, pay5_apply]
  rfl

variable (m : (ℓ : Loc nD τ sig) → Buf (Elt Ideal) ℓ)

/-- The queries after a grid point. -/
theorem outQ (c : Dev nD) (t : Fin cfg0.N) :
    (outsAt0 m c t).1 = qBlk (X0_0 m c t) (iblk m c 6 t) (iblk m c 4 t) (iblk m c 5 t) (iblk m c 8 t) (iblk m c 9 t) := by
  unfold outsAt0
  dsimp only
  frame_out
  generalize X0_0 m c t = x
  generalize (iblk m c 6 t) = g
  generalize (iblk m c 4 t) = a
  generalize (iblk m c 5 t) = b
  generalize (iblk m c 8 t) = w
  generalize (iblk m c 9 t) = w'
  exact slabs
    (qHead x g a b w w' 3 (by intro k l; pointwise) (by intro k l; pointwise))
    (qHead x g a b w w' 2 (by intro k l; pointwise) (by intro k l; pointwise))
    (qHead x g a b w w' 1 (by intro k l; pointwise) (by intro k l; pointwise))
    (qHead x g a b w w' 0 (by intro k l; pointwise) (by intro k l; pointwise))

/-- The keys after a grid point. -/
theorem outK (c : Dev nD) (t : Fin cfg0.N) :
    (outsAt0 m c t).2.1 = kBlk (iblk m c 1 t) (iblk m c 7 t) (iblk m c 2 t) (iblk m c 3 t) (iblk m c 4 t) (iblk m c 5 t) (iblk m c 10 t) := by
  unfold outsAt0
  dsimp only
  frame_out
  generalize (iblk m c 1 t) = x
  generalize (iblk m c 7 t) = g
  generalize (iblk m c 2 t) = p
  generalize (iblk m c 3 t) = q
  generalize (iblk m c 4 t) = a
  generalize (iblk m c 5 t) = b
  generalize (iblk m c 10 t) = w
  exact slabs
    (kHead x g p q a b w 3 (by intro k l; pointwise))
    (kHead x g p q a b w 2 (by intro k l; pointwise))
    (kHead x g p q a b w 1 (by intro k l; pointwise))
    (kHead x g p q a b w 0 (by intro k l; pointwise))

/-- The values after a grid point. -/
theorem outV (c : Dev nD) (t : Fin cfg0.N) :
    (outsAt0 m c t).2.2 = vBlk (iblk m c 1 t) (iblk m c 7 t) (iblk m c 11 t) := by
  unfold outsAt0
  dsimp only
  frame_out
  generalize (iblk m c 1 t) = x
  generalize (iblk m c 7 t) = g
  generalize (iblk m c 11 t) = w
  exact slabs
    (vHead x g w 3 (by intro k l; pointwise))
    (vHead x g w 2 (by intro k l; pointwise))
    (vHead x g w 1 (by intro k l; pointwise))
    (vHead x g w 0 (by intro k l; pointwise))

end Cert.Lanes
-- ==== Proof.PrepRead.lean ====
module

public import proofs.«01_k».proof.Proof.PrepPay
public import proofs.«01_k».proof.Proof.Gen.PrepRefIdeal.Run

@[expose] public section

set_option maxRecDepth 16384

noncomputable section

/-! The queries, keys and values of the attention: what the reference holds, at an index. -/

namespace Cert.Lanes

open Idealize.ShloMosaic Idealize.SL.Sem Idealize.ShloMosaic.TcCoe
open Cert.PrepRefIdeal Cert.PrepRefIdeal.Gen Cert.PrepRefIdeal.Value

/-- The rotary angles of the latent rows. -/
def angV : Vec Ideal S8192x16 .f32 :=
  (concatenate S8192x16 1 [⟨S8192x8, (mulf (F := Ideal) (φ := .f32) (broadcastInDim S8192x8 ![0, 1] bcast_S8192x1_S8192x8_0_1 (broadcastInDim S8192x1 ![0] bcast_S8192_S8192x1_0 (shapeCast S8192 (broadcastInDim S128x64 ![0] bcast_S128_S128x64_0 (sitofp (F := Ideal) .f32 (iotaInDim S128 32 0))) shapeCasts_S128x64_S8192))) (broadcastInDim S8192x8 ![0, 1] bcast_S1x8_S8192x8_0_1 (broadcastInDim S1x8 ![1] bcast_S8_S1x8_1 (Host.powf (F := Ideal) (φ := .f32) (broadcastInDim S8 ![] bcast_S_S8 (constant (F := Ideal) S_ .f32 0x461C4000#32)) (Host.divf (F := Ideal) (φ := .f32) (Host.negf (F := Ideal) (φ := .f32) (addf (F := Ideal) (φ := .f32) (broadcastInDim S8 ![] bcast_S_S8 (constant (F := Ideal) S_ .f32 0x00000000#32)) (mulf (F := Ideal) (φ := .f32) (broadcastInDim S8 ![] bcast_S_S8 (constant (F := Ideal) S_ .f32 0x40000000#32)) (sitofp (F := Ideal) .f32 (iotaInDim S8 32 0))))) (broadcastInDim S8 ![] bcast_S_S8 (constant (F := Ideal) S_ .f32 0x41800000#32)))))))⟩, ⟨S8192x8, (mulf (F := Ideal) (φ := .f32) (broadcastInDim S8192x8 ![0, 1] bcast_S8192x1_S8192x8_0_1 (broadcastInDim S8192x1 ![0] bcast_S8192_S8192x1_0 (shapeCast S8192 (broadcastInDim S128x64 ![0, 1] bcast_S1x64_S128x64_0_1 (shapeCast S1x64 (sitofp (F := Ideal) .f32 (iotaInDim S64 32 0)) shapeCasts_S64_S1x64)) shapeCasts_S128x64_S8192))) (broadcastInDim S8192x8 ![0, 1] bcast_S1x8_S8192x8_0_1 (broadcastInDim S1x8 ![1] bcast_S8_S1x8_1 (Host.powf (F := Ideal) (φ := .f32) (broadcastInDim S8 ![] bcast_S_S8 (constant (F := Ideal) S_ .f32 0x461C4000#32)) (Host.divf (F := Ideal) (φ := .f32) (Host.negf (F := Ideal) (φ := .f32) (addf (F := Ideal) (φ := .f32) (broadcastInDim S8 ![] bcast_S_S8 (constant (F := Ideal) S_ .f32 0x00000000#32)) (mulf (F := Ideal) (φ := .f32) (broadcastInDim S8 ![] bcast_S_S8 (constant (F := Ideal) S_ .f32 0x40000000#32)) (sitofp (F := Ideal) .f32 (iotaInDim S8 32 0))))) (broadcastInDim S8 ![] bcast_S_S8 (constant (F := Ideal) S_ .f32 0x41800000#32)))))))⟩] concatenates_S8192x8_S8192x8_S8192x16_d1)

/-- The normed query rank. -/
def normQ (p : Vec Ideal S2x8448x2944 .f32) (g : Vec Ideal S256 .f32) : Vec Ideal S2x8448x256 .f32 :=
  (mulf (F := Ideal) (φ := .f32) (mulf (F := Ideal) (φ := .f32) (extractStridedSlice S2x8448x256 ![0, 0, 1536] p slices_S2x8448x2944_S2x8448x256_0_0_1536) (broadcastInDim S2x8448x256 ![0, 1, 2] bcast_S2x8448x1_S2x8448x256_0_1_2 (Host.rsqrt (F := Ideal) (φ := .f32) (addf (F := Ideal) (φ := .f32) (Host.divf (F := Ideal) (φ := .f32) (broadcastInDim S2x8448x1 ![0, 1] bcast_S2x8448_S2x8448x1_0_1 (Host.reduceAdd (F := Ideal) (φ := .f32) (mulf (F := Ideal) (φ := .f32) (extractStridedSlice S2x8448x256 ![0, 0, 1536] p slices_S2x8448x2944_S2x8448x256_0_0_1536) (extractStridedSlice S2x8448x256 ![0, 0, 1536] p slices_S2x8448x2944_S2x8448x256_0_0_1536)) (constant (F := Ideal) S_ .f32 0x00000000#32) reducesTo_S2x8448x256_S2x8448_d2 h_S_)) (broadcastInDim S2x8448x1 ![] bcast_S_S2x8448x1 (constant (F := Ideal) S_ .f32 0x43800000#32))) (broadcastInDim S2x8448x1 ![] bcast_S_S2x8448x1 (constant (F := Ideal) S_ .f32 0x358637BD#32)))))) (broadcastInDim S2x8448x256 ![0, 1, 2] bcast_S1x1x256_S2x8448x256_0_1_2 (broadcastInDim S1x1x256 ![2] bcast_S256_S1x1x256_2 g)))

/-- The normed key rank. -/
def normK (p : Vec Ideal S2x8448x2944 .f32) (g : Vec Ideal S128 .f32) : Vec Ideal S2x8448x128 .f32 :=
  (mulf (F := Ideal) (φ := .f32) (mulf (F := Ideal) (φ := .f32) (extractStridedSlice S2x8448x128 ![0, 0, 2304] p slices_S2x8448x2944_S2x8448x128_0_0_2304) (broadcastInDim S2x8448x128 ![0, 1, 2] bcast_S2x8448x1_S2x8448x128_0_1_2 (Host.rsqrt (F := Ideal) (φ := .f32) (addf (F := Ideal) (φ := .f32) (Host.divf (F := Ideal) (φ := .f32) (broadcastInDim S2x8448x1 ![0, 1] bcast_S2x8448_S2x8448x1_0_1 (Host.reduceAdd (F := Ideal) (φ := .f32) (mulf (F := Ideal) (φ := .f32) (extractStridedSlice S2x8448x128 ![0, 0, 2304] p slices_S2x8448x2944_S2x8448x128_0_0_2304) (extractStridedSlice S2x8448x128 ![0, 0, 2304] p slices_S2x8448x2944_S2x8448x128_0_0_2304)) (constant (F := Ideal) S_ .f32 0x00000000#32) reducesTo_S2x8448x128_S2x8448_d2 h_S_)) (broadcastInDim S2x8448x1 ![] bcast_S_S2x8448x1 (constant (F := Ideal) S_ .f32 0x43000000#32))) (broadcastInDim S2x8448x1 ![] bcast_S_S2x8448x1 (constant (F := Ideal) S_ .f32 0x358637BD#32)))))) (broadcastInDim S2x8448x128 ![0, 1, 2] bcast_S1x1x128_S2x8448x128_0_1_2 (broadcastInDim S1x1x128 ![2] bcast_S128_S1x1x128_2 g)))

/-- The queries of the four heads, before the rotation. -/
def qV (x : Vec Ideal S2x8448x256 .f32) (w : Vec Ideal S256x384 .f32) : Vec Ideal S2x8448x4x96 .f32 :=
  (shapeCast S2x8448x4x96 (Host.dotGeneral (F := Ideal) (φ₁ := .f32) (φ₂ := .f32) dot_S2x8448x256_S256x384_S2x8448x384_2_0_01_1_n_n none x w) shapeCasts_S2x8448x384_S2x8448x4x96)

/-- The keys and values of the four heads. -/
def kvV (x : Vec Ideal S2x8448x128 .f32) (w : Vec Ideal S128x512 .f32) : Vec Ideal S2x8448x4x128 .f32 :=
  (shapeCast S2x8448x4x128 (Host.dotGeneral (F := Ideal) (φ₁ := .f32) (φ₂ := .f32) dot_S2x8448x128_S128x512_S2x8448x512_2_0_01_1_n_n none x w) shapeCasts_S2x8448x512_S2x8448x4x128)

/-- The queries with the latent rows' last lanes rotated. -/
def rotQ (q : Vec Ideal S2x8448x4x96 .f32) (co si : Vec Ideal S8192x16 .f32) : Vec Ideal S2x8448x4x96 .f32 :=
  (concatenate S2x8448x4x96 1 [⟨S2x8192x4x96, (concatenate S2x8192x4x96 3 [⟨S2x8192x4x64, (extractStridedSlice S2x8192x4x64 ![0, 0, 0, 0] (extractStridedSlice S2x8192x4x96 ![0, 0, 0, 0] q slices_S2x8448x4x96_S2x8192x4x96_0_0_0_0) slices_S2x8192x4x96_S2x8192x4x64_0_0_0_0)⟩, ⟨S2x8192x4x32, (concatenate S2x8192x4x32 3 [⟨S2x8192x4x16, (subf (F := Ideal) (φ := .f32) (mulf (F := Ideal) (φ := .f32) (extractStridedSlice S2x8192x4x16 ![0, 0, 0, 0] (extractStridedSlice S2x8192x4x32 ![0, 0, 0, 64] (extractStridedSlice S2x8192x4x96 ![0, 0, 0, 0] q slices_S2x8448x4x96_S2x8192x4x96_0_0_0_0) slices_S2x8192x4x96_S2x8192x4x32_0_0_0_64) slices_S2x8192x4x32_S2x8192x4x16_0_0_0_0) (broadcastInDim S2x8192x4x16 ![0, 1, 2, 3] bcast_S1x8192x1x16_S2x8192x4x16_0_1_2_3 (broadcastInDim S1x8192x1x16 ![1, 2, 3] bcast_S8192x1x16_S1x8192x1x16_1_2_3 (broadcastInDim S8192x1x16 ![0, 2] bcast_S8192x16_S8192x1x16_0_2 co)))) (mulf (F := Ideal) (φ := .f32) (extractStridedSlice S2x8192x4x16 ![0, 0, 0, 16] (extractStridedSlice S2x8192x4x32 ![0, 0, 0, 64] (extractStridedSlice S2x8192x4x96 ![0, 0, 0, 0] q slices_S2x8448x4x96_S2x8192x4x96_0_0_0_0) slices_S2x8192x4x96_S2x8192x4x32_0_0_0_64) slices_S2x8192x4x32_S2x8192x4x16_0_0_0_16) (broadcastInDim S2x8192x4x16 ![0, 1, 2, 3] bcast_S1x8192x1x16_S2x8192x4x16_0_1_2_3 (broadcastInDim S1x8192x1x16 ![1, 2, 3] bcast_S8192x1x16_S1x8192x1x16_1_2_3 (broadcastInDim S8192x1x16 ![0, 2] bcast_S8192x16_S8192x1x16_0_2 si)))))⟩, ⟨S2x8192x4x16, (addf (F := Ideal) (φ := .f32) (mulf (F := Ideal) (φ := .f32) (extractStridedSlice S2x8192x4x16 ![0, 0, 0, 0] (extractStridedSlice S2x8192x4x32 ![0, 0, 0, 64] (extractStridedSlice S2x8192x4x96 ![0, 0, 0, 0] q slices_S2x8448x4x96_S2x8192x4x96_0_0_0_0) slices_S2x8192x4x96_S2x8192x4x32_0_0_0_64) slices_S2x8192x4x32_S2x8192x4x16_0_0_0_0) (broadcastInDim S2x8192x4x16 ![0, 1, 2, 3] bcast_S1x8192x1x16_S2x8192x4x16_0_1_2_3 (broadcastInDim S1x8192x1x16 ![1, 2, 3] bcast_S8192x1x16_S1x8192x1x16_1_2_3 (broadcastInDim S8192x1x16 ![0, 2] bcast_S8192x16_S8192x1x16_0_2 si)))) (mulf (F := Ideal) (φ := .f32) (extractStridedSlice S2x8192x4x16 ![0, 0, 0, 16] (extractStridedSlice S2x8192x4x32 ![0, 0, 0, 64] (extractStridedSlice S2x8192x4x96 ![0, 0, 0, 0] q slices_S2x8448x4x96_S2x8192x4x96_0_0_0_0) slices_S2x8192x4x96_S2x8192x4x32_0_0_0_64) slices_S2x8192x4x32_S2x8192x4x16_0_0_0_16) (broadcastInDim S2x8192x4x16 ![0, 1, 2, 3] bcast_S1x8192x1x16_S2x8192x4x16_0_1_2_3 (broadcastInDim S1x8192x1x16 ![1, 2, 3] bcast_S8192x1x16_S1x8192x1x16_1_2_3 (broadcastInDim S8192x1x16 ![0, 2] bcast_S8192x16_S8192x1x16_0_2 co)))))⟩] concatenates_S2x8192x4x16_S2x8192x4x16_S2x8192x4x32_d3)⟩] concatenates_S2x8192x4x64_S2x8192x4x32_S2x8192x4x96_d3)⟩, ⟨S2x256x4x96, (extractStridedSlice S2x256x4x96 ![0, 8192, 0, 0] q slices_S2x8448x4x96_S2x256x4x96_0_8192_0_0)⟩] concatenates_S2x8192x4x96_S2x256x4x96_S2x8448x4x96_d1)

/-- The keys' rotary part, rotated in the latent rows. -/
def rotK (p : Vec Ideal S2x8448x2944 .f32) (co si : Vec Ideal S8192x16 .f32) : Vec Ideal S2x8448x32 .f32 :=
  (concatenate S2x8448x32 1 [⟨S2x8192x32, (concatenate S2x8192x32 2 [⟨S2x8192x16, (subf (F := Ideal) (φ := .f32) (mulf (F := Ideal) (φ := .f32) (extractStridedSlice S2x8192x16 ![0, 0, 0] (extractStridedSlice S2x8192x32 ![0, 0, 0] (extractStridedSlice S2x8448x32 ![0, 0, 2752] p slices_S2x8448x2944_S2x8448x32_0_0_2752) slices_S2x8448x32_S2x8192x32_0_0_0) slices_S2x8192x32_S2x8192x16_0_0_0) (broadcastInDim S2x8192x16 ![0, 1, 2] bcast_S1x8192x16_S2x8192x16_0_1_2 (broadcastInDim S1x8192x16 ![1, 2] bcast_S8192x16_S1x8192x16_1_2 co))) (mulf (F := Ideal) (φ := .f32) (extractStridedSlice S2x8192x16 ![0, 0, 16] (extractStridedSlice S2x8192x32 ![0, 0, 0] (extractStridedSlice S2x8448x32 ![0, 0, 2752] p slices_S2x8448x2944_S2x8448x32_0_0_2752) slices_S2x8448x32_S2x8192x32_0_0_0) slices_S2x8192x32_S2x8192x16_0_0_16) (broadcastInDim S2x8192x16 ![0, 1, 2] bcast_S1x8192x16_S2x8192x16_0_1_2 (broadcastInDim S1x8192x16 ![1, 2] bcast_S8192x16_S1x8192x16_1_2 si))))⟩, ⟨S2x8192x16, (addf (F := Ideal) (φ := .f32) (mulf (F := Ideal) (φ := .f32) (extractStridedSlice S2x8192x16 ![0, 0, 0] (extractStridedSlice S2x8192x32 ![0, 0, 0] (extractStridedSlice S2x8448x32 ![0, 0, 2752] p slices_S2x8448x2944_S2x8448x32_0_0_2752) slices_S2x8448x32_S2x8192x32_0_0_0) slices_S2x8192x32_S2x8192x16_0_0_0) (broadcastInDim S2x8192x16 ![0, 1, 2] bcast_S1x8192x16_S2x8192x16_0_1_2 (broadcastInDim S1x8192x16 ![1, 2] bcast_S8192x16_S1x8192x16_1_2 si))) (mulf (F := Ideal) (φ := .f32) (extractStridedSlice S2x8192x16 ![0, 0, 16] (extractStridedSlice S2x8192x32 ![0, 0, 0] (extractStridedSlice S2x8448x32 ![0, 0, 2752] p slices_S2x8448x2944_S2x8448x32_0_0_2752) slices_S2x8448x32_S2x8192x32_0_0_0) slices_S2x8192x32_S2x8192x16_0_0_16) (broadcastInDim S2x8192x16 ![0, 1, 2] bcast_S1x8192x16_S2x8192x16_0_1_2 (broadcastInDim S1x8192x16 ![1, 2] bcast_S8192x16_S1x8192x16_1_2 co))))⟩] concatenates_S2x8192x16_S2x8192x16_S2x8192x32_d2)⟩, ⟨S2x256x32, (extractStridedSlice S2x256x32 ![0, 8192, 0] (extractStridedSlice S2x8448x32 ![0, 0, 2752] p slices_S2x8448x2944_S2x8448x32_0_0_2752) slices_S2x8448x32_S2x256x32_0_8192_0)⟩] concatenates_S2x8192x32_S2x256x32_S2x8448x32_d1)

/-- The scaled queries, filled up to 128 lanes. -/
def resQ (r : Vec Ideal S2x8448x4x96 .f32) : Vec Ideal S2x4x8448x128 .bf16 :=
  truncf (F := Ideal) .bf16 (transpose S2x4x8448x128 [0, 2, 1, 3] (concatenate S2x8448x4x128 3 [⟨S2x8448x4x96, (mulf (F := Ideal) (φ := .f32) r (broadcastInDim S2x8448x4x96 ![] bcast_S_S2x8448x4x96 (constant (F := Ideal) S_ .f32 0x3DD105EC#32)))⟩, ⟨S2x8448x4x32, (broadcastInDim S2x8448x4x32 ![] bcast_S_S2x8448x4x32 (constant (F := Ideal) S_ .f32 0x00000000#32))⟩] concatenates_S2x8448x4x96_S2x8448x4x32_S2x8448x4x128_d3) transposes_S2x8448x4x128_S2x4x8448x128_0_2_1_3) bitsLt_bf16_f32

/-- The keys, filled up to 128 lanes. -/
def resK (kv : Vec Ideal S2x8448x4x128 .f32) (r : Vec Ideal S2x8448x32 .f32) : Vec Ideal S2x4x8448x128 .bf16 :=
  truncf (F := Ideal) .bf16 (transpose S2x4x8448x128 [0, 2, 1, 3] ((concatenate S2x8448x4x128 3 [⟨S2x8448x4x64, ((extractStridedSlice S2x8448x4x64 ![0, 0, 0, 0] kv slices_S2x8448x4x128_S2x8448x4x64_0_0_0_0))⟩, ⟨S2x8448x4x32, ((broadcastInDim S2x8448x4x32 ![0, 1, 2, 3] bcast_S2x8448x1x32_S2x8448x4x32_0_1_2_3 (broadcastInDim S2x8448x1x32 ![0, 1, 3] bcast_S2x8448x32_S2x8448x1x32_0_1_3 r)))⟩, ⟨S2x8448x4x32, ((broadcastInDim S2x8448x4x32 ![] bcast_S_S2x8448x4x32 (constant (F := Ideal) S_ .f32 0x00000000#32)))⟩] concatenates_S2x8448x4x64_S2x8448x4x32_S2x8448x4x32_S2x8448x4x128_d3)) transposes_S2x8448x4x128_S2x4x8448x128_0_2_1_3) bitsLt_bf16_f32

/-- The values, a one, and zeros. -/
def resV (kv : Vec Ideal S2x8448x4x128 .f32) : Vec Ideal S2x4x8448x128 .bf16 :=
  truncf (F := Ideal) .bf16 (transpose S2x4x8448x128 [0, 2, 1, 3] ((concatenate S2x8448x4x128 3 [⟨S2x8448x4x64, ((extractStridedSlice S2x8448x4x64 ![0, 0, 0, 64] kv slices_S2x8448x4x128_S2x8448x4x64_0_0_0_64))⟩, ⟨S2x8448x4x1, ((broadcastInDim S2x8448x4x1 ![] bcast_S_S2x8448x4x1 (constant (F := Ideal) S_ .f32 0x3F800000#32)))⟩, ⟨S2x8448x4x63, ((broadcastInDim S2x8448x4x63 ![] bcast_S_S2x8448x4x63 (constant (F := Ideal) S_ .f32 0x00000000#32)))⟩] concatenates_S2x8448x4x64_S2x8448x4x1_S2x8448x4x63_S2x8448x4x128_d3)) transposes_S2x8448x4x128_S2x4x8448x128_0_2_1_3) bitsLt_bf16_f32

/-- The cosines of the angles. -/
def cosV : Vec Ideal S8192x16 .f32 := Host.cos (F := Ideal) (φ := .f32) angV

/-- The sines of the angles. -/
def sinV : Vec Ideal S8192x16 .f32 := Host.sin (F := Ideal) (φ := .f32) angV

/-- The reference's queries from its memory. -/
def refQ (m : (ℓ : Loc nD τ sig) → Buf (Elt Ideal) ℓ) (c : Dev nD) : Vec Ideal S2x4x8448x128 .bf16 :=
  resQ (rotQ (qV (normQ (m ((c.tc : Thread nD τ).loc main_arg0)) (m ((c.tc : Thread nD τ).loc main_arg1))) (m ((c.tc : Thread nD τ).loc main_arg2))) cosV sinV)

/-- The reference's keys from its memory. -/
def refK (m : (ℓ : Loc nD τ sig) → Buf (Elt Ideal) ℓ) (c : Dev nD) : Vec Ideal S2x4x8448x128 .bf16 :=
  resK (kvV (normK (m ((c.tc : Thread nD τ).loc main_arg0)) (m ((c.tc : Thread nD τ).loc main_arg3))) (m ((c.tc : Thread nD τ).loc main_arg4))) (rotK (m ((c.tc : Thread nD τ).loc main_arg0)) cosV sinV)

/-- The reference's values from its memory. -/
def refV (m : (ℓ : Loc nD τ sig) → Buf (Elt Ideal) ℓ) (c : Dev nD) : Vec Ideal S2x4x8448x128 .bf16 :=
  resV (kvV (normK (m ((c.tc : Thread nD τ).loc main_arg0)) (m ((c.tc : Thread nD τ).loc main_arg3))) (m ((c.tc : Thread nD τ).loc main_arg4)))

/-- The queries are what the reference is said to return. -/
theorem refQ_eq (m : (ℓ : Loc nD τ sig) → Buf (Elt Ideal) ℓ) (c : Dev nD) : res_main_v122 m c = refQ m c := rfl

/-- The keys are what the reference is said to return. -/
theorem refK_eq (m : (ℓ : Loc nD τ sig) → Buf (Elt Ideal) ℓ) (c : Dev nD) : res_main_v124 m c = refK m c := rfl

/-- The normed query rank at an index. -/
theorem normQ_apply (p : Vec Ideal S2x8448x2944 .f32) (g : Vec Ideal S256 .f32) (b : Fin 2) (R : Fin 8448) (d : Fin 256) :
    normQ p g (ix3 b R d) = rms 0x43800000#32 (fun k : Fin 256 => p (ix3 b R ⟨1536 + k.val, by omega⟩)) (fun k => g (ix1 k)) d := by
  unfold normQ rms
  pointwise

/-- The normed key rank at an index. -/
theorem normK_apply (p : Vec Ideal S2x8448x2944 .f32) (g : Vec Ideal S128 .f32) (b : Fin 2) (R : Fin 8448) (d : Fin 128) :
    normK p g (ix3 b R d) = rms 0x43000000#32 (fun k : Fin 128 => p (ix3 b R ⟨2304 + k.val, by omega⟩)) (fun k => g (ix1 k)) d := by
  unfold normK rms
  pointwise

/-- The queries before the rotation, at an index. -/
theorem qV_apply (x : Vec Ideal S2x8448x256 .f32) (w : Vec Ideal S256x384 .f32) (b : Fin 2) (R : Fin 8448) (h : Fin 4) (l : Fin 96) :
    qV x w (ix4 b R h l) = ∑ k, x (ix3 b R k) * w (ix2 k ⟨h.val * 96 + l.val, by omega⟩) := by
  unfold qV
  pointwise

/-- The keys and values at an index. -/
theorem kvV_apply (x : Vec Ideal S2x8448x128 .f32) (w : Vec Ideal S128x512 .f32) (b : Fin 2) (R : Fin 8448) (h : Fin 4) (l : Fin 128) :
    kvV x w (ix4 b R h l) = ∑ k, x (ix3 b R k) * w (ix2 k ⟨h.val * 128 + l.val, by omega⟩) := by
  unfold kvV
  pointwise

/-- The rotated queries at an index. -/
theorem rotQ_apply (q : Vec Ideal S2x8448x4x96 .f32) (co si : Vec Ideal S8192x16 .f32) (b : Fin 2) (R : Fin 8448) (h : Fin 4) (l : Fin 96) :
    rotQ q co si (ix4 b R h l) =
      if hR : R.val < 8192 then
        if h2 : l.val < 64 then q (ix4 b R h l)
        else if h3 : l.val - 64 < 16 then
          q (ix4 b R h ⟨64 + (l.val - 64), by omega⟩) * co (ix2 ⟨R.val, by omega⟩ ⟨l.val - 64, by omega⟩)
            - q (ix4 b R h ⟨64 + (16 + (l.val - 64)), by omega⟩) * si (ix2 ⟨R.val, by omega⟩ ⟨l.val - 64, by omega⟩)
        else
          q (ix4 b R h ⟨64 + (l.val - 64 - 16), by omega⟩) * si (ix2 ⟨R.val, by omega⟩ ⟨l.val - 64 - 16, by omega⟩)
            + q (ix4 b R h ⟨64 + (16 + (l.val - 64 - 16)), by omega⟩) * co (ix2 ⟨R.val, by omega⟩ ⟨l.val - 64 - 16, by omega⟩)
      else q (ix4 b ⟨8192 + (R.val - 8192), by omega⟩ h l) := by
  unfold rotQ
  pointwise

/-- The keys' rotary part at an index. -/
theorem rotK_apply (p : Vec Ideal S2x8448x2944 .f32) (co si : Vec Ideal S8192x16 .f32) (b : Fin 2) (R : Fin 8448) (l : Fin 32) :
    rotK p co si (ix3 b R l) =
      if hR : R.val < 8192 then
        if h1 : l.val < 16 then
          p (ix3 b R ⟨2752 + l.val, by omega⟩) * co (ix2 ⟨R.val, by omega⟩ ⟨l.val, by omega⟩)
            - p (ix3 b R ⟨2752 + (16 + l.val), by omega⟩) * si (ix2 ⟨R.val, by omega⟩ ⟨l.val, by omega⟩)
        else
          p (ix3 b R ⟨2752 + (l.val - 16), by omega⟩) * si (ix2 ⟨R.val, by omega⟩ ⟨l.val - 16, by omega⟩)
            + p (ix3 b R ⟨2752 + (16 + (l.val - 16)), by omega⟩) * co (ix2 ⟨R.val, by omega⟩ ⟨l.val - 16, by omega⟩)
      else p (ix3 b ⟨8192 + (R.val - 8192), by omega⟩ ⟨2752 + l.val, by omega⟩) := by
  unfold rotK
  pointwise

/-- The filled queries at an index. -/
theorem resQ_apply (r : Vec Ideal S2x8448x4x96 .f32) (b : Fin 2) (R : Fin 8448) (h : Fin 4) (l : Fin 128) :
    resQ r (ix4 b h R l) = if hl : l.val < 96 then r (ix4 b R h ⟨l.val, hl⟩) * Ideal.ofBits .f32 0x3DD105EC#32 else 0 := by
  unfold resQ
  pointwise

/-- The filled keys at an index. -/
theorem resK_apply (kv : Vec Ideal S2x8448x4x128 .f32) (r : Vec Ideal S2x8448x32 .f32) (b : Fin 2) (R : Fin 8448) (h : Fin 4) (l : Fin 128) :
    resK kv r (ix4 b h R l) = if h1 : l.val < 64 then kv (ix4 b R h l) else if h2 : l.val - 64 < 32 then r (ix3 b R ⟨l.val - 64, h2⟩) else 0 := by
  unfold resK
  pointwise

/-- The filled values at an index. -/
theorem resV_apply (kv : Vec Ideal S2x8448x4x128 .f32) (b : Fin 2) (R : Fin 8448) (h : Fin 4) (l : Fin 128) :
    resV kv (ix4 b h R l) = if h1 : l.val < 64 then kv (ix4 b R h ⟨64 + l.val, by omega⟩) else if h2 : l.val - 64 < 1 then 1 else 0 := by
  unfold resV
  pointwise

end Cert.Lanes
-- ==== Proof.PrepHost.lean ====
module

public import Idealize.ShloMosaic.Lib.StableHlo.ReadAt
public import proofs.«01_k».proof.Proof.PrepRead

@[expose] public section

set_option maxRecDepth 16384

noncomputable section

/-! What the host computes before the call: the weights, padded to 128 lanes, and the tables of cosines and sines. -/

namespace Cert.Lanes

open Idealize.ShloMosaic Idealize.SL.Sem Idealize.ShloMosaic.TcCoe Idealize.ShloMosaic.Pipeline
open Cert.PrepIdeal Cert.PrepIdeal.Gen

/-- The zero the host pads with. -/
theorem pad0 : FloatOps.sitofp (F := Ideal) .f32 (0#32) = 0 := by
  show (((0#32 : BitVec 32).toInt : ℝ) : EReal) = 0
  simp

/-- Two arrays joined, each replaced by an equal one. -/
theorem cat2 {t s₁ s₂ : Shape} {a : Fin t.rank} {u u' : s₁.Idx → EReal} {v v' : s₂.Idx → EReal}
    {h : Shape.Concatenates [s₁, s₂] t a} (e : u = u') (f : v = v') :
    concatenate t a [⟨s₁, u⟩, ⟨s₂, v⟩] h = concatenate t a [⟨s₁, u'⟩, ⟨s₂, v'⟩] h := by
  subst e f; rfl

/-- Three arrays joined, each replaced by an equal one. -/
theorem cat3 {t s₁ s₂ s₃ : Shape} {a : Fin t.rank} {u u' : s₁.Idx → EReal} {v v' : s₂.Idx → EReal} {w w' : s₃.Idx → EReal}
    {h : Shape.Concatenates [s₁, s₂, s₃] t a} (e : u = u') (f : v = v') (g : w = w') :
    concatenate t a [⟨s₁, u⟩, ⟨s₂, v⟩, ⟨s₃, w⟩] h = concatenate t a [⟨s₁, u'⟩, ⟨s₂, v'⟩, ⟨s₃, w'⟩] h := by
  subst e f g; rfl

/-- Four arrays joined, each replaced by an equal one. -/
theorem cat4 {t s₁ s₂ s₃ s₄ : Shape} {a : Fin t.rank} {u u' : s₁.Idx → EReal} {v v' : s₂.Idx → EReal} {w w' : s₃.Idx → EReal} {x x' : s₄.Idx → EReal}
    {h : Shape.Concatenates [s₁, s₂, s₃, s₄] t a} (e : u = u') (f : v = v') (g : w = w') (k : x = x') :
    concatenate t a [⟨s₁, u⟩, ⟨s₂, v⟩, ⟨s₃, w⟩, ⟨s₄, x⟩] h = concatenate t a [⟨s₁, u'⟩, ⟨s₂, v'⟩, ⟨s₃, w'⟩, ⟨s₄, x'⟩] h := by
  subst e f g k; rfl

/-- A head's query weights, padded with zeros. -/
def qW (w : Vec Ideal S256x384 .f32) (h : Fin 4) (k : Fin 256) (l : Fin 128) : EReal :=
  if hl : l.val < 96 then w (ix2 k ⟨h.val * 96 + l.val, by omega⟩) else 0

/-- A head's key weights, padded with zeros. -/
def kW (w : Vec Ideal S128x512 .f32) (h : Fin 4) (k : Fin 128) (l : Fin 128) : EReal :=
  if hl : l.val < 64 then w (ix2 k ⟨h.val * 128 + l.val, by omega⟩) else 0

/-- A head's value weights, padded with zeros. -/
def vW (w : Vec Ideal S128x512 .f32) (h : Fin 4) (k : Fin 128) (l : Fin 128) : EReal :=
  if hl : l.val < 64 then w (ix2 k ⟨h.val * 128 + (64 + l.val), by omega⟩) else 0

/-- A head's query weights for the rotated copy, padded with zeros. -/
def rW (w : Vec Ideal S256x384 .f32) (h : Fin 4) (k : Fin 256) (l : Fin 128) : EReal :=
  if h1 : l.val < 64 then 0
  else if h2 : l.val < 80 then - w (ix2 k ⟨h.val * 96 + (l.val + 16), by omega⟩)
  else if h3 : l.val < 96 then w (ix2 k ⟨h.val * 96 + (l.val - 16), by omega⟩) else 0

variable (m : (ℓ : Loc nD τ sig) → Buf (Elt Ideal) ℓ) (c : Dev nD)

/-- The query norm's weights. -/
theorem V_gq (k : Fin 256) : V m c main_v59 (ix2 0 k) = m ((c.tc : Thread nD τ).loc main_arg1) (ix1 k) := by
  unfold V
  simp only [List.flatten_cons, List.flatten_nil, List.append_nil]
  after_reads_at

/-- The key norm's weights. -/
theorem V_gk (k : Fin 128) : V m c main_v60 (ix2 0 k) = m ((c.tc : Thread nD τ).loc main_arg3) (ix1 k) := by
  unfold V
  simp only [List.flatten_cons, List.flatten_nil, List.append_nil]
  after_reads_at

/-- The query weights, head by head. -/
theorem V_wq (h : Fin 4) (k : Fin 256) (l : Fin 128) : V m c main_v50 (ix3 h k l) = qW (m ((c.tc : Thread nD τ).loc main_arg2)) h k l := by
  unfold V
  simp only [List.flatten_cons, List.flatten_nil, List.append_nil]
  after_reads_at
  rw [pad0]
  rfl

/-- The key weights, head by head. -/
theorem V_wk (h : Fin 4) (k : Fin 128) (l : Fin 128) : V m c main_v55 (ix3 h k l) = kW (m ((c.tc : Thread nD τ).loc main_arg4)) h k l := by
  unfold V
  simp only [List.flatten_cons, List.flatten_nil, List.append_nil]
  after_reads_at
  rw [pad0]
  rfl

/-- The value weights, head by head. -/
theorem V_wv (h : Fin 4) (k : Fin 128) (l : Fin 128) : V m c main_v58 (ix3 h k l) = vW (m ((c.tc : Thread nD τ).loc main_arg4)) h k l := by
  unfold V
  simp only [List.flatten_cons, List.flatten_nil, List.append_nil]
  after_reads_at
  simp only [pad0]
  unfold vW
  split <;> rfl

/-- The query weights whose product is the rotated copy: zeros, the second half of the rotary lanes negated, the first half. -/
def wRot (w : Vec Ideal S256x384 .f32) : Vec Ideal S4x256x96 .f32 :=
  concatenate S4x256x96 2 [⟨S4x256x64, broadcastInDim S4x256x64 ![] bcast_S_S4x256x64 (constant (F := Ideal) S_ .f32 0x00000000#32)⟩,
    ⟨S4x256x16, Host.negf (F := Ideal) (φ := .f32) (extractStridedSlice S4x256x16 ![0, 0, 80] (transpose S4x256x96 [1, 0, 2] (shapeCast S256x4x96 w shapeCasts_S256x384_S256x4x96) transposes_S256x4x96_S4x256x96_1_0_2) slices_S4x256x96_S4x256x16_0_0_80)⟩,
    ⟨S4x256x16, extractStridedSlice S4x256x16 ![0, 0, 64] (transpose S4x256x96 [1, 0, 2] (shapeCast S256x4x96 w shapeCasts_S256x384_S256x4x96) transposes_S256x4x96_S4x256x96_1_0_2) slices_S4x256x96_S4x256x16_0_0_64⟩]
    concatenates_S4x256x64_S4x256x16_S4x256x16_S4x256x96_d2

/-- Those weights, padded to 128 lanes. -/
def wRotP (w : Vec Ideal S256x384 .f32) : Vec Ideal S4x256x128 .bf16 :=
  truncf (F := Ideal) .bf16 (pad S4x256x128 ![0, 0, 0] ![0, 0, 32] ![0, 0, 0] (wRot w) (sitofp (F := Ideal) .f32 (constantI S_ 32 0#32)) pads_S4x256x96_S4x256x128_000_000_0320 h_S_) bitsLt_bf16_f32

/-- The host's value for them. -/
theorem V_main_v52 : V m c main_v52 = wRotP (m ((c.tc : Thread nD τ).loc main_arg2)) := by
  unfold V wRotP wRot
  simp only [List.flatten_cons, List.flatten_nil, List.append_nil]
  after_reads_simp
  refine congrArg (fun z : Vec Ideal S4x256x96 .f32 => truncf (F := Ideal) .bf16 (pad S4x256x128 ![0, 0, 0] ![0, 0, 32] ![0, 0, 0] z (sitofp (F := Ideal) .f32 (constantI S_ 32 0#32)) pads_S4x256x96_S4x256x128_000_000_0320 h_S_) bitsLt_bf16_f32) ?_
  refine cat3 ?_ ?_ ?_
  · show StableHlo.upto _ _ 56 (Proc.tc.devRef main_v42) = _
    after_reads_simp
  · show StableHlo.upto _ _ 56 (Proc.tc.devRef main_v44) = _
    after_reads_simp
    rfl
  · show StableHlo.upto _ _ 56 (Proc.tc.devRef main_v45) = _
    after_reads_simp
    rfl

/-- The joined tables: ones in the first 64 lanes, zeros in the last 32, and between them twice a table of 16 lanes with constant context rows. -/
def tab (d : BitVec 32) (e : BitVec 32) (x : Vec Ideal S8192x16 .f32) : Vec Ideal S8448x128 .f32 :=
  concatenate S8448x128 1 [⟨S8448x64, broadcastInDim S8448x64 ![] bcast_S_S8448x64 (constant (F := Ideal) S_ .f32 d)⟩,
    ⟨S8448x16, concatenate S8448x16 0 [⟨S8192x16, x⟩, ⟨S256x16, broadcastInDim S256x16 ![] bcast_S_S256x16 (constant (F := Ideal) S_ .f32 e)⟩] concatenates_S8192x16_S256x16_S8448x16_d0⟩,
    ⟨S8448x16, concatenate S8448x16 0 [⟨S8192x16, x⟩, ⟨S256x16, broadcastInDim S256x16 ![] bcast_S_S256x16 (constant (F := Ideal) S_ .f32 e)⟩] concatenates_S8192x16_S256x16_S8448x16_d0⟩,
    ⟨S8448x32, broadcastInDim S8448x32 ![] bcast_S_S8448x32 (constant (F := Ideal) S_ .f32 0x00000000#32)⟩]
    concatenates_S8448x64_S8448x16_S8448x16_S8448x32_S8448x128_d1

/-- The host's table of cosines. -/
theorem V_main_v36 : V m c main_v36 = tab 0x3F800000#32 0x3F800000#32 cosV := by
  unfold V tab
  simp only [List.flatten_cons, List.flatten_nil, List.append_nil]
  after_reads_simp
  refine cat4 ?_ ?_ ?_ ?_
  · show StableHlo.upto _ _ 44 (Proc.tc.devRef main_v35) = _
    after_reads_simp
  · show StableHlo.upto _ _ 44 (Proc.tc.devRef main_v30) = _
    after_reads_simp
    refine cat2 ?_ ?_
    · after_reads_simp
      show Host.cos (F := Ideal) (φ := .f32) _ = _
      unfold cosV angV
      refine congrArg _ ?_
      refine cat2 ?_ ?_
      · after_reads_simp
        rfl
      · after_reads_simp
        rfl
    · after_reads_simp
  · show StableHlo.upto _ _ 44 (Proc.tc.devRef main_v30) = _
    after_reads_simp
    refine cat2 ?_ ?_
    · after_reads_simp
      show Host.cos (F := Ideal) (φ := .f32) _ = _
      unfold cosV angV
      refine congrArg _ ?_
      refine cat2 ?_ ?_
      · after_reads_simp
        rfl
      · after_reads_simp
        rfl
    · after_reads_simp
  · show StableHlo.upto _ _ 44 (Proc.tc.devRef main_v34) = _
    after_reads_simp

/-- The host's table of sines. -/
theorem V_main_v38 : V m c main_v38 = tab 0x00000000#32 0x00000000#32 sinV := by
  unfold V tab
  simp only [List.flatten_cons, List.flatten_nil, List.append_nil]
  after_reads_simp
  refine cat4 ?_ ?_ ?_ ?_
  · show StableHlo.upto _ _ 47 (Proc.tc.devRef main_v37) = _
    after_reads_simp
  · show StableHlo.upto _ _ 47 (Proc.tc.devRef main_v33) = _
    after_reads_simp
    refine cat2 ?_ ?_
    · after_reads_simp
      show Host.sin (F := Ideal) (φ := .f32) _ = _
      unfold sinV angV
      refine congrArg _ ?_
      refine cat2 ?_ ?_
      · after_reads_simp
        rfl
      · after_reads_simp
        rfl
    · after_reads_simp
  · show StableHlo.upto _ _ 47 (Proc.tc.devRef main_v33) = _
    after_reads_simp
    refine cat2 ?_ ?_
    · after_reads_simp
      show Host.sin (F := Ideal) (φ := .f32) _ = _
      unfold sinV angV
      refine congrArg _ ?_
      refine cat2 ?_ ?_
      · after_reads_simp
        rfl
      · after_reads_simp
        rfl
    · after_reads_simp
  · show StableHlo.upto _ _ 47 (Proc.tc.devRef main_v34) = _
    after_reads_simp

/-- The joined table at an index. -/
theorem tab_apply (d e : BitVec 32) (x : Vec Ideal S8192x16 .f32) (R : Fin 8448) (l : Fin 128) :
    tab d e x (ix2 R l) = if h : l.val < 64 then Ideal.ofBits .f32 d
      else if h : l.val - 64 < 16 then if hR : R.val < 8192 then x (ix2 ⟨R.val, hR⟩ ⟨l.val - 64, h⟩) else Ideal.ofBits .f32 e
      else if h : l.val - 64 - 16 < 16 then if hR : R.val < 8192 then x (ix2 ⟨R.val, hR⟩ ⟨l.val - 64 - 16, h⟩) else Ideal.ofBits .f32 e
      else 0 := by
  unfold tab
  pointwise

/-- The padded weights of the rotated copy at an index. -/
theorem wRotP_apply (w : Vec Ideal S256x384 .f32) (h : Fin 4) (k : Fin 256) (l : Fin 128) : wRotP w (ix3 h k l) = rW w h k l := by
  unfold wRotP wRot rW
  pointwise
  rw [pad0]
  by_cases h1 : l.val < 64
  · rw [dif_pos (by omega), dif_pos h1, dif_pos h1]
  by_cases h2 : l.val < 80
  · rw [dif_pos (by omega), dif_neg h1, dif_pos (by omega), dif_neg h1, dif_pos h2]
    exact congrArg (fun i => - w (ix2 k i)) (Fin.ext (by show h.val * 96 + (80 + (l.val - 64)) = h.val * 96 + (l.val + 16); omega))
  by_cases h3 : l.val < 96
  · rw [dif_pos h3, dif_neg h1, dif_neg (by omega), dif_neg h1, dif_neg h2, dif_pos h3]
    exact congrArg (fun i => w (ix2 k i)) (Fin.ext (by show h.val * 96 + (64 + (l.val - 64 - 16)) = h.val * 96 + (l.val - 16); omega))
  · rw [dif_neg h3, dif_neg h1, dif_neg h2, dif_neg h3]

end Cert.Lanes
-- ==== Proof.PrepLane.lean ====
module

public import proofs.«01_k».proof.Proof.PrepHost

@[expose] public section

set_option maxRecDepth 16384

noncomputable section

/-! A lane of the kernel's queries, keys and values is the reference's, for inputs as in the precondition. -/

namespace Cert.Lanes

open Idealize.ShloMosaic Idealize.SL.Sem Idealize.ShloMosaic.TcCoe
open Cert.PrepIdeal Cert.PrepIdeal.Gen

/-- One, from its bits. -/
theorem bits_one : Ideal.ofBits .f32 0x3F800000#32 = 1 := by
  simp [Ideal.ofBits, Ideal.ieee]
  rw [← EReal.coe_mul, ← EReal.coe_one]
  norm_num

/-- Zero, from its bits. -/
theorem bits_zero : Ideal.ofBits .f32 0x00000000#32 = 0 := by
  simp [Ideal.ofBits, Ideal.ieee]

/-- The length of a row, from its bits, is a nonzero real number. -/
theorem bits_len : ∃ r : ℝ, 0 < r ∧ Ideal.ofBits .f32 0x43800000#32 = (r : EReal) := by
  refine ⟨256, by norm_num, ?_⟩
  simp [Ideal.ofBits, Ideal.ieee]
  rw [← EReal.coe_mul]
  norm_num

/-- The norm's constant, from its bits, is a positive real number. -/
theorem bits_eps : ∃ r : ℝ, 0 < r ∧ Ideal.ofBits .f32 0x358637BD#32 = (r : EReal) := by
  simp [Ideal.ofBits, Ideal.ieee]
  exact ⟨_, by positivity, (EReal.coe_mul _ _).symm⟩

/-- A finite sum of real numbers is the real sum. -/
theorem sum_coe {n : ℕ} (f : Fin n → ℝ) : ∑ k, (f k : EReal) = ((∑ k, f k : ℝ) : EReal) :=
  (map_sum (⟨⟨Real.toEReal, EReal.coe_zero⟩, EReal.coe_add⟩ : ℝ →+ EReal) _ _).symm

/-- The norm of a row of real numbers is real. -/
theorem rms_real (x g : Fin 256 → EReal) (hx : ∀ k, ∃ r : ℝ, x k = (r : EReal)) (hg : ∀ k, ∃ r : ℝ, g k = (r : EReal)) (d : Fin 256) :
    ∃ r : ℝ, rms 0x43800000#32 x g d = (r : EReal) := by
  choose a ha using hx
  choose b hb using hg
  obtain ⟨n, hn, en⟩ := bits_len
  obtain ⟨ε, hε, eε⟩ := bits_eps
  have hs : (0 : ℝ) ≤ ∑ k, a k * a k := Finset.sum_nonneg fun k _ => mul_self_nonneg _
  have hp : 0 < (∑ k, a k * a k) * (1 / n) + ε := by positivity
  unfold rms
  simp only [ha, hb, en, eε, ← EReal.coe_mul, sum_coe]
  rw [Ideal.div_coe hn.ne', ← EReal.coe_mul, ← EReal.coe_add, Ideal.rsqrt_coe, if_neg (not_lt.mpr hp.le), if_neg hp.ne', ← EReal.coe_mul, ← EReal.coe_mul]
  exact ⟨_, rfl⟩

/-- A sum of products with negated real numbers is the negated sum. -/
theorem sum_neg_real {n : ℕ} (x w : Fin n → EReal) (hx : ∀ k, ∃ r : ℝ, x k = (r : EReal)) (hw : ∀ k, ∃ r : ℝ, w k = (r : EReal)) :
    ∑ k, x k * -w k = -∑ k, x k * w k := by
  choose a ha using hx
  choose b hb using hw
  simp only [ha, hb, ← EReal.coe_neg, ← EReal.coe_mul, sum_coe, mul_neg, Finset.sum_neg_distrib]

/-- A query's lane. -/
theorem qlane_eq (p : Vec Ideal S2x8448x2944 .f32) (g : Vec Ideal S256 .f32) (w : Vec Ideal S256x384 .f32) (co si : Vec Ideal S8192x16 .f32)
    (hp : ∀ (b : Fin 2) (R : Fin 8448) (k : Fin 256), ∃ r : ℝ, p (ix3 b R ⟨1536 + k.val, by omega⟩) = (r : EReal))
    (hg : ∀ k, ∃ r : ℝ, g (ix1 k) = (r : EReal)) (hw : ∀ k n, ∃ r : ℝ, w (ix2 k n) = (r : EReal))
    (b : Fin 2) (R : Fin 8448) (h : Fin 4) (l : Fin 128) :
    qlane (rms 0x43800000#32 (fun k : Fin 256 => p (ix3 b R ⟨1536 + k.val, by omega⟩)) (fun k => g (ix1 k)))
      (fun k => qW w h k l) (fun k => rW w h k l) (tab 0x3F800000#32 0x3F800000#32 co (ix2 R l)) (tab 0x00000000#32 0x00000000#32 si (ix2 R l))
      = resQ (rotQ (qV (normQ p g) w) co si) (ix4 b h R l) := by
  have hX := rms_real _ _ (hp b R) hg
  have hS : ∀ l : Fin 96, qV (normQ p g) w (ix4 b R h l)
      = ∑ k, rms 0x43800000#32 (fun k : Fin 256 => p (ix3 b R ⟨1536 + k.val, by omega⟩)) (fun k => g (ix1 k)) k * w (ix2 k ⟨h.val * 96 + l.val, by omega⟩) := by
    intro l
    rw [qV_apply]
    exact Finset.sum_congr rfl fun k _ => by rw [normQ_apply]
  generalize qV (normQ p g) w = q at hS ⊢
  generalize rms 0x43800000#32 (fun k : Fin 256 => p (ix3 b R ⟨1536 + k.val, by omega⟩)) (fun k => g (ix1 k)) = x at hX hS ⊢
  rw [resQ_apply, tab_apply, tab_apply]
  unfold qlane qW rW
  simp only [bits_one, bits_zero]
  by_cases h3 : l.val < 96
  swap
  · simp only [dif_neg h3, dif_neg (show ¬ l.val < 64 by omega), dif_neg (show ¬ l.val < 80 by omega), mul_zero, Finset.sum_const_zero, zero_mul, add_zero]
  simp only [dif_pos h3]
  refine congrArg (· * _) ?_
  rw [rotQ_apply]
  have hR' : ∀ hh, (⟨8192 + (R.val - 8192), hh⟩ : Fin 8448) = if R.val < 8192 then ⟨8192, by omega⟩ else R := by
    intro hh
    split
    · exact Fin.ext (by show 8192 + (R.val - 8192) = 8192; omega)
    · exact Fin.ext (by show 8192 + (R.val - 8192) = R.val; omega)
  by_cases h1 : l.val < 64
  · simp only [dif_pos h1, mul_zero, Finset.sum_const_zero, mul_one, add_zero, hR', hS]
    by_cases hR : R.val < 8192
    · simp only [dif_pos hR]
    · simp only [dif_neg hR, if_neg hR, hS]
  by_cases hR : R.val < 8192
  swap
  · simp only [dif_neg h1, dif_neg hR, hR', if_neg hR, hS, mul_zero, add_zero]
    split_ifs <;> first | rw [mul_one, mul_zero, add_zero] | omega
  by_cases h2 : l.val < 80
  · simp only [dif_neg h1, dif_pos h2, dif_pos hR, dif_pos (show l.val - 64 < 16 by omega), hS]
    rw [sum_neg_real x _ hX (fun k => hw k _), EReal.neg_mul, sub_eq_add_neg]
    have e1 : 64 + (l.val - 64) = l.val := by omega
    have e2 : 64 + (16 + (l.val - 64)) = l.val + 16 := by omega
    simp only [e1, e2]
  · simp only [dif_neg h1, dif_neg h2, dif_pos hR, dif_neg (show ¬ l.val - 64 < 16 by omega), dif_pos (show l.val - 64 - 16 < 16 by omega), hS]
    have e1 : 64 + (l.val - 64 - 16) = l.val - 16 := by omega
    have e2 : 64 + (16 + (l.val - 64 - 16)) = l.val := by omega
    simp only [e1, e2]
    exact add_comm _ _

/-- A key's lane. -/
theorem klane_eq (p : Vec Ideal S2x8448x2944 .f32) (g : Vec Ideal S128 .f32) (w : Vec Ideal S128x512 .f32) (co si : Vec Ideal S8192x16 .f32)
    (h0 : ∀ (b : Fin 2) (R : Fin 8448) (j : Fin 64), p (ix3 b R ⟨2688 + j.val, by omega⟩) = 0)
    (h1 : ∀ (b : Fin 2) (R : Fin 8448) (j : Fin 16), p (ix3 b R ⟨2880 + j.val, by omega⟩) = -p (ix3 b R ⟨2768 + j.val, by omega⟩))
    (h2 : ∀ (b : Fin 2) (R : Fin 8448) (j : Fin 16), p (ix3 b R ⟨2896 + j.val, by omega⟩) = p (ix3 b R ⟨2752 + j.val, by omega⟩))
    (b : Fin 2) (R : Fin 8448) (h : Fin 4) (l : Fin 128) :
    klane (rms 0x43000000#32 (fun k : Fin 128 => p (ix3 b R ⟨2304 + k.val, by omega⟩)) (fun k => g (ix1 k)))
      (fun k => kW w h k l) (p (ix3 b R ⟨2688 + l.val, by omega⟩)) (tab 0x3F800000#32 0x3F800000#32 co (ix2 R l))
      (p (ix3 b R ⟨2816 + l.val, by omega⟩)) (tab 0x00000000#32 0x00000000#32 si (ix2 R l))
      = resK (kvV (normK p g) w) (rotK p co si) (ix4 b h R l) := by
  have hS : ∀ l : Fin 128, kvV (normK p g) w (ix4 b R h l)
      = ∑ k, rms 0x43000000#32 (fun k : Fin 128 => p (ix3 b R ⟨2304 + k.val, by omega⟩)) (fun k => g (ix1 k)) k * w (ix2 k ⟨h.val * 128 + l.val, by omega⟩) := by
    intro l
    rw [kvV_apply]
    exact Finset.sum_congr rfl fun k _ => by rw [normK_apply]
  generalize kvV (normK p g) w = q at hS ⊢
  generalize rms 0x43000000#32 (fun k : Fin 128 => p (ix3 b R ⟨2304 + k.val, by omega⟩)) (fun k => g (ix1 k)) = x at hS ⊢
  have at' : ∀ (n n' : ℕ) (hn hn'), n = n' → p (ix3 b R ⟨n, hn⟩) = p (ix3 b R ⟨n', hn'⟩) := fun n n' hn hn' e => by subst e; rfl
  rw [resK_apply, tab_apply, tab_apply]
  unfold klane kW
  simp only [bits_one, bits_zero]
  by_cases h64 : l.val < 64
  · simp only [dif_pos h64, h0 b R ⟨l.val, h64⟩, mul_zero, zero_mul, add_zero, hS]
  simp only [dif_neg h64, mul_zero, Finset.sum_const_zero, zero_add]
  by_cases h96 : l.val - 64 < 32
  swap
  · simp only [dif_neg h96, dif_neg (show ¬ l.val - 64 < 16 by omega), dif_neg (show ¬ l.val - 64 - 16 < 16 by omega), mul_zero, add_zero]
  rw [dif_pos h96, rotK_apply]
  by_cases hR : R.val < 8192
  swap
  · have e : (⟨8192 + (R.val - 8192), by omega⟩ : Fin 8448) = R := Fin.ext (by show 8192 + (R.val - 8192) = R.val; omega)
    simp only [dif_neg hR, e, mul_zero, add_zero]
    rw [at' (2752 + (l.val - 64)) (2688 + l.val) _ (by omega) (by omega)]
    split_ifs <;> first | rw [mul_one, mul_zero, add_zero] | omega
  by_cases h16 : l.val - 64 < 16
  · simp only [dif_pos hR, dif_pos h16]
    rw [at' (2816 + l.val) (2880 + (l.val - 64)) _ (by omega) (by omega), h1 b R ⟨l.val - 64, h16⟩, EReal.neg_mul, ← sub_eq_add_neg]
    rw [at' (2752 + (l.val - 64)) (2688 + l.val) _ (by omega) (by omega), at' (2752 + (16 + (l.val - 64))) (2768 + (l.val - 64)) _ (by omega) (by omega)]
  · simp only [dif_pos hR, dif_neg h16, dif_pos (show l.val - 64 - 16 < 16 by omega)]
    rw [at' (2816 + l.val) (2896 + (l.val - 64 - 16)) _ (by omega) (by omega), h2 b R ⟨l.val - 64 - 16, by omega⟩]
    rw [at' (2752 + (16 + (l.val - 64 - 16))) (2688 + l.val) _ (by omega) (by omega)]
    exact add_comm _ _

/-- A value's lane. -/
theorem vlane_eq (p : Vec Ideal S2x8448x2944 .f32) (g : Vec Ideal S128 .f32) (w : Vec Ideal S128x512 .f32)
    (b : Fin 2) (R : Fin 8448) (h : Fin 4) (l : Fin 128) :
    vlane (rms 0x43000000#32 (fun k : Fin 128 => p (ix3 b R ⟨2304 + k.val, by omega⟩)) (fun k => g (ix1 k))) (fun k => vW w h k l) l
      = resV (kvV (normK p g) w) (ix4 b h R l) := by
  have hS : ∀ l : Fin 128, kvV (normK p g) w (ix4 b R h l)
      = ∑ k, rms 0x43000000#32 (fun k : Fin 128 => p (ix3 b R ⟨2304 + k.val, by omega⟩)) (fun k => g (ix1 k)) k * w (ix2 k ⟨h.val * 128 + l.val, by omega⟩) := by
    intro l
    rw [kvV_apply]
    exact Finset.sum_congr rfl fun k _ => by rw [normK_apply]
  generalize kvV (normK p g) w = q at hS ⊢
  generalize rms 0x43000000#32 (fun k : Fin 128 => p (ix3 b R ⟨2304 + k.val, by omega⟩)) (fun k => g (ix1 k)) = x at hS ⊢
  rw [resV_apply]
  unfold vlane vW
  simp only [bits_one, bits_zero]
  by_cases h64 : l.val < 64
  · simp only [dif_pos h64, if_neg (show ¬ l.val = 64 by omega), add_zero, hS]
  simp only [dif_neg h64, mul_zero, Finset.sum_const_zero, zero_add]
  by_cases h1 : l.val = 64
  · rw [if_pos h1, dif_pos (by omega)]
  · rw [if_neg h1, dif_neg (by omega)]

end Cert.Lanes
-- ==== Proof.PrepEq.lean ====
module

public import proofs.«01_k».proof.Proof.PrepLane
public import proofs.«01_k».proof.Proof.AttnPre
public import proofs.«01_k».proof.Proof.Gen.Pre_packed_rope

@[expose] public section

set_option maxRecDepth 16384

noncomputable section

/-! The queries', keys' and values' arrays are the reference's, block by block. -/

namespace Cert.Lanes

open Idealize.ShloMosaic Idealize.SL.Sem Idealize.ShloMosaic.TcCoe Idealize.ShloMosaic.Pipeline
open Cert.PrepIdeal Cert.PrepIdeal.Gen

variable (m : (ℓ : Loc nD τ sig) → Buf (Elt Ideal) ℓ)

/-- The windows' blocks at a grid point: 33 blocks of rows for each of two batches, the last of them the context. -/
theorem idx : ∀ t : Fin cfg0.N, win0_0.index t = ![t.val / 33, t.val % 33, 6] ∧ win0_1.index t = ![t.val / 33, t.val % 33, 18]
    ∧ win0_2.index t = ![t.val / 33, t.val % 33, 21] ∧ win0_3.index t = ![t.val / 33, t.val % 33, 22]
    ∧ win0_4.index t = ![t.val % 33, 0] ∧ win0_5.index t = ![t.val % 33, 0] ∧ win0_6.index t = ![0, 0] ∧ win0_7.index t = ![0, 0]
    ∧ win0_8.index t = ![0, 0, 0] ∧ win0_9.index t = ![0, 0, 0] ∧ win0_10.index t = ![0, 0, 0] ∧ win0_11.index t = ![0, 0, 0]
    ∧ win0_12.index t = ![t.val / 33, 0, t.val % 33, 0] ∧ win0_13.index t = ![t.val / 33, 0, t.val % 33, 0] ∧ win0_14.index t = ![t.val / 33, 0, t.val % 33, 0] :=
  (by decide +kernel : ∀ t : Fin grid0.N, _)

section
variable (c : Dev nD) (t : Fin cfg0.N) (h33 : t.val / 33 < 2)

/-- The query rank of a block. -/
theorem cq (r : Fin 256) (k : Fin 256) :
    X0_0 m c t (ix3 0 r k) = m ((c.tc : Thread nD τ).loc main_arg0) (ix3 ⟨t.val / 33, h33⟩ ⟨t.val % 33 * 256 + r.val, by omega⟩ ⟨1536 + k.val, by omega⟩) := by
  unfold X0_0 Window.fill
  rw [dif_pos (moved0_0 t _)]
  blk_simp [iblk]
  entry_read
  pointwise
  blk_ext [(idx t).1]

/-- The key rank of a block. -/
theorem ckv (r : Fin 256) (k : Fin 128) :
    iblk m c 1 t (ix3 0 r k) = m ((c.tc : Thread nD τ).loc main_arg0) (ix3 ⟨t.val / 33, h33⟩ ⟨t.val % 33 * 256 + r.val, by omega⟩ ⟨2304 + k.val, by omega⟩) := by
  blk_simp [iblk]
  entry_read
  pointwise
  blk_ext [(idx t).2.1]

/-- The keys' rotary columns of a block. -/
theorem kr (r : Fin 256) (k : Fin 128) :
    iblk m c 2 t (ix3 0 r k) = m ((c.tc : Thread nD τ).loc main_arg0) (ix3 ⟨t.val / 33, h33⟩ ⟨t.val % 33 * 256 + r.val, by omega⟩ ⟨2688 + k.val, by omega⟩) := by
  blk_simp [iblk]
  entry_read
  pointwise
  blk_ext [(idx t).2.2.1]

/-- The rotated copy of a block's rotary columns. -/
theorem krrot (r : Fin 256) (k : Fin 128) :
    iblk m c 3 t (ix3 0 r k) = m ((c.tc : Thread nD τ).loc main_arg0) (ix3 ⟨t.val / 33, h33⟩ ⟨t.val % 33 * 256 + r.val, by omega⟩ ⟨2816 + k.val, by omega⟩) := by
  blk_simp [iblk]
  entry_read
  pointwise
  blk_ext [(idx t).2.2.2.1]

/-- The query norm's weights. -/
theorem gq (k : Fin 256) : iblk m c 6 t (ix2 0 k) = (m ((c.tc : Thread nD τ).loc main_arg1)) (ix1 k) := by
  blk_simp [iblk]
  refine (congrArg (V m c main_v59) (?_ : _ = ix2 0 k)).trans (V_gq m c k)
  blk_ext [(idx t).2.2.2.2.2.2.1]

/-- The key norm's weights. -/
theorem gk (k : Fin 128) : iblk m c 7 t (ix2 0 k) = (m ((c.tc : Thread nD τ).loc main_arg3)) (ix1 k) := by
  blk_simp [iblk]
  refine (congrArg (V m c main_v60) (?_ : _ = ix2 0 k)).trans (V_gk m c k)
  blk_ext [(idx t).2.2.2.2.2.2.2.1]

/-- The query weights. -/
theorem wq (h : Fin 4) (k : Fin 256) (l : Fin 128) : iblk m c 8 t (ix3 h k l) = qW (m ((c.tc : Thread nD τ).loc main_arg2)) h k l := by
  blk_simp [iblk]
  refine (congrArg (V m c main_v50) (?_ : _ = ix3 h k l)).trans (V_wq m c h k l)
  blk_ext [(idx t).2.2.2.2.2.2.2.2.1]

/-- The query weights of the rotated copy. -/
theorem wr (h : Fin 4) (k : Fin 256) (l : Fin 128) : iblk m c 9 t (ix3 h k l) = rW (m ((c.tc : Thread nD τ).loc main_arg2)) h k l := by
  blk_simp [iblk]
  refine (congrArg (V m c main_v52) (?_ : _ = ix3 h k l)).trans ((congrFun (V_main_v52 m c) _).trans (wRotP_apply _ h k l))
  blk_ext [(idx t).2.2.2.2.2.2.2.2.2.1]

/-- The key weights. -/
theorem wk (h : Fin 4) (k : Fin 128) (l : Fin 128) : iblk m c 10 t (ix3 h k l) = kW (m ((c.tc : Thread nD τ).loc main_arg4)) h k l := by
  blk_simp [iblk]
  refine (congrArg (V m c main_v55) (?_ : _ = ix3 h k l)).trans (V_wk m c h k l)
  blk_ext [(idx t).2.2.2.2.2.2.2.2.2.2.1]

/-- The value weights. -/
theorem wv (h : Fin 4) (k : Fin 128) (l : Fin 128) : iblk m c 11 t (ix3 h k l) = vW (m ((c.tc : Thread nD τ).loc main_arg4)) h k l := by
  blk_simp [iblk]
  refine (congrArg (V m c main_v58) (?_ : _ = ix3 h k l)).trans (V_wv m c h k l)
  blk_ext [(idx t).2.2.2.2.2.2.2.2.2.2.2.1]

/-- The block's cosines. -/
theorem co (r : Fin 256) (l : Fin 128) : iblk m c 4 t (ix2 r l) = tab 0x3F800000#32 0x3F800000#32 cosV (ix2 ⟨t.val % 33 * 256 + r.val, by omega⟩ l) := by
  blk_simp [iblk]
  refine (congrArg (V m c main_v36) (?_ : _ = ix2 ⟨t.val % 33 * 256 + r.val, by omega⟩ l)).trans (congrFun (V_main_v36 m c) _)
  blk_ext [(idx t).2.2.2.2.1]

/-- The block's sines. -/
theorem si (r : Fin 256) (l : Fin 128) : iblk m c 5 t (ix2 r l) = tab 0x00000000#32 0x00000000#32 sinV (ix2 ⟨t.val % 33 * 256 + r.val, by omega⟩ l) := by
  blk_simp [iblk]
  refine (congrArg (V m c main_v38) (?_ : _ = ix2 ⟨t.val % 33 * 256 + r.val, by omega⟩ l)).trans (congrFun (V_main_v38 m c) _)
  blk_ext [(idx t).2.2.2.2.2.1]

end

/-- The packed projections. -/
def A0 (c : Dev nD) : Vec Ideal S2x8448x2944 .f32 := m ((c.tc : Thread nD τ).loc main_arg0)

/-- What the precondition says of the arguments, at an index. -/
theorem pre_apply (h : Cert.Pre_PrepIdeal_packed_rope m) (c : Dev nD) :
    (∀ (b : Fin 2) (R : Fin 8448) (k : Fin 256), ∃ r : ℝ, m ((c.tc : Thread nD τ).loc main_arg0) (ix3 b R ⟨1536 + k.val, by omega⟩) = (r : EReal))
    ∧ (∀ k : Fin 256, ∃ r : ℝ, m ((c.tc : Thread nD τ).loc main_arg1) (ix1 k) = (r : EReal))
    ∧ (∀ (k : Fin 256) (n : Fin 384), ∃ r : ℝ, m ((c.tc : Thread nD τ).loc main_arg2) (ix2 k n) = (r : EReal))
    ∧ (∀ (b : Fin 2) (R : Fin 8448) (j : Fin 64), A0 m c (ix3 b R ⟨2688 + j.val, by omega⟩) = 0)
    ∧ (∀ (b : Fin 2) (R : Fin 8448) (j : Fin 16), A0 m c (ix3 b R ⟨2880 + j.val, by omega⟩) = -A0 m c (ix3 b R ⟨2768 + j.val, by omega⟩))
    ∧ ∀ (b : Fin 2) (R : Fin 8448) (j : Fin 16), A0 m c (ix3 b R ⟨2896 + j.val, by omega⟩) = A0 m c (ix3 b R ⟨2752 + j.val, by omega⟩) := by
  have e := congrFun (h c) ix0
  unfold Cert.Pre_packed_rope.fn Cert.Pre_packed_rope.fn_part1 at e
  dsimp only [andi] at e
  rw [IntOp.andi_eq_one, IntOp.andi_eq_one, IntOp.andi_eq_one, IntOp.andi_eq_one, IntOp.andi_eq_one] at e
  obtain ⟨⟨⟨⟨⟨ec, eg⟩, ew⟩, ez⟩, ef⟩, es⟩ := e
  refine ⟨fun b R k => ?_, fun k => ?_, fun k n => ?_, fun b R j => ?_, fun b R j => ?_, fun b R j => ?_⟩
  · have e1 := Host.reduce_andi_all _ _ _ _ _ ec (ix3 b R k)
    pointwise at e1
    exact Cert.AttnIdeal.Head.real_of_abs_lt (Cert.AttnIdeal.Head.lt_of_cmp e1)
  · have e1 := Host.reduce_andi_all _ _ _ _ _ eg (ix1 k)
    pointwise at e1
    exact Cert.AttnIdeal.Head.real_of_abs_lt (Cert.AttnIdeal.Head.lt_of_cmp e1)
  · have e1 := Host.reduce_andi_all _ _ _ _ _ ew (ix2 k n)
    pointwise at e1
    exact Cert.AttnIdeal.Head.real_of_abs_lt (Cert.AttnIdeal.Head.lt_of_cmp e1)
  · have e1 := Host.reduce_andi_all _ _ _ _ _ ez (ix3 b R j)
    pointwise at e1
    exact Cert.AttnIdeal.Head.eq_of_cmp e1
  · have e1 := Host.reduce_andi_all _ _ _ _ _ ef (ix3 b R j)
    pointwise at e1
    exact Cert.AttnIdeal.Head.eq_of_cmp e1
  · have e1 := Host.reduce_andi_all _ _ _ _ _ es (ix3 b R j)
    pointwise at e1
    exact Cert.AttnIdeal.Head.eq_of_cmp e1

/-- The queries are the reference's. -/
theorem equalQ (h : Cert.Pre_PrepIdeal_packed_rope m) (c : Dev nD) :
    (dats m 0 c).arrAt 12 cfg0.N = resQ (rotQ (qV (normQ (A0 m c) (m ((c.tc : Thread nD τ).loc main_arg1))) (m ((c.tc : Thread nD τ).loc main_arg2))) cosV sinV) := by
  obtain ⟨hp, hg, hw, h0, h1, h2⟩ := pre_apply m h c
  refine (dats m 0 c).arrAt_eq_of_covers 12 _ (by decide +kernel) fun t hf y => ?_
  blk_simp
  rw [after0_12, outQ]
  obtain ⟨z, hd, r, l, rfl⟩ : ∃ (z : Fin 1) (hd : Fin 4) (r : Fin 256) (l : Fin 128), y = ix4 z hd r l := ⟨y 0, y 1, y 2, y 3, by funext a; fin_cases a <;> rfl⟩
  obtain rfl : z = 0 := Subsingleton.elim _ _
  have ht : t.val < 66 := t.isLt
  have h33 : t.val / 33 < 2 := by omega
  have e : ((cfg0.win 12).blk t).view.emb (ix4 0 hd r l) = ix4 (⟨t.val / 33, h33⟩ : Fin 2) hd (⟨t.val % 33 * 256 + r.val, by omega⟩ : Fin 8448) l := by
    blk_ext [(idx t).2.2.2.2.2.2.2.2.2.2.2.2.1]
  rw [e]
  refine Eq.trans ?_ (qlane_eq (A0 m c) (m ((c.tc : Thread nD τ).loc main_arg1)) (m ((c.tc : Thread nD τ).loc main_arg2)) cosV sinV hp hg hw ⟨t.val / 33, h33⟩ ⟨t.val % 33 * 256 + r.val, by omega⟩ hd l)
  show qlane (rms _ (fun k => X0_0 m c t (ix3 0 r k)) (fun k => iblk m c 6 t (ix2 0 k))) (fun k => iblk m c 8 t (ix3 hd k l)) (fun k => iblk m c 9 t (ix3 hd k l))
    (iblk m c 4 t (ix2 r l)) (iblk m c 5 t (ix2 r l)) = _
  simp only [cq m c t h33, gq m c t, wq m c t, wr m c t, co m c t, si m c t]
  rfl

/-- The keys are the reference's. -/
theorem equalK (h : Cert.Pre_PrepIdeal_packed_rope m) (c : Dev nD) :
    (dats m 0 c).arrAt 13 cfg0.N = resK (kvV (normK (A0 m c) (m ((c.tc : Thread nD τ).loc main_arg3))) (m ((c.tc : Thread nD τ).loc main_arg4))) (rotK (A0 m c) cosV sinV) := by
  obtain ⟨hp, hg, hw, h0, h1, h2⟩ := pre_apply m h c
  refine (dats m 0 c).arrAt_eq_of_covers 13 _ (by decide +kernel) fun t hf y => ?_
  blk_simp
  rw [after0_13, outK]
  obtain ⟨z, hd, r, l, rfl⟩ : ∃ (z : Fin 1) (hd : Fin 4) (r : Fin 256) (l : Fin 128), y = ix4 z hd r l := ⟨y 0, y 1, y 2, y 3, by funext a; fin_cases a <;> rfl⟩
  obtain rfl : z = 0 := Subsingleton.elim _ _
  have ht : t.val < 66 := t.isLt
  have h33 : t.val / 33 < 2 := by omega
  have e : ((cfg0.win 13).blk t).view.emb (ix4 0 hd r l) = ix4 (⟨t.val / 33, h33⟩ : Fin 2) hd (⟨t.val % 33 * 256 + r.val, by omega⟩ : Fin 8448) l := by
    blk_ext [(idx t).2.2.2.2.2.2.2.2.2.2.2.2.2.1]
  rw [e]
  refine Eq.trans ?_ (klane_eq (A0 m c) (m ((c.tc : Thread nD τ).loc main_arg3)) (m ((c.tc : Thread nD τ).loc main_arg4)) cosV sinV h0 h1 h2 ⟨t.val / 33, h33⟩ ⟨t.val % 33 * 256 + r.val, by omega⟩ hd l)
  show klane (rms _ (fun k => iblk m c 1 t (ix3 0 r k)) (fun k => iblk m c 7 t (ix2 0 k))) (fun k => iblk m c 10 t (ix3 hd k l)) (iblk m c 2 t (ix3 0 r l))
    (iblk m c 4 t (ix2 r l)) (iblk m c 3 t (ix3 0 r l)) (iblk m c 5 t (ix2 r l)) = _
  simp only [ckv m c t h33, gk m c t, wk m c t, kr m c t h33, krrot m c t h33, co m c t, si m c t]
  rfl

/-- The values are the reference's. -/
theorem equalV (c : Dev nD) :
    (dats m 0 c).arrAt 14 cfg0.N = resV (kvV (normK (A0 m c) (m ((c.tc : Thread nD τ).loc main_arg3))) (m ((c.tc : Thread nD τ).loc main_arg4))) := by
  refine (dats m 0 c).arrAt_eq_of_covers 14 _ (by decide +kernel) fun t hf y => ?_
  blk_simp
  rw [after0_14, outV]
  obtain ⟨z, hd, r, l, rfl⟩ : ∃ (z : Fin 1) (hd : Fin 4) (r : Fin 256) (l : Fin 128), y = ix4 z hd r l := ⟨y 0, y 1, y 2, y 3, by funext a; fin_cases a <;> rfl⟩
  obtain rfl : z = 0 := Subsingleton.elim _ _
  have ht : t.val < 66 := t.isLt
  have h33 : t.val / 33 < 2 := by omega
  have e : ((cfg0.win 14).blk t).view.emb (ix4 0 hd r l) = ix4 (⟨t.val / 33, h33⟩ : Fin 2) hd (⟨t.val % 33 * 256 + r.val, by omega⟩ : Fin 8448) l := by
    blk_ext [(idx t).2.2.2.2.2.2.2.2.2.2.2.2.2.2]
  rw [e]
  refine Eq.trans ?_ (vlane_eq (A0 m c) (m ((c.tc : Thread nD τ).loc main_arg3)) (m ((c.tc : Thread nD τ).loc main_arg4)) ⟨t.val / 33, h33⟩ ⟨t.val % 33 * 256 + r.val, by omega⟩ hd l)
  show vlane (rms _ (fun k => iblk m c 1 t (ix3 0 r k)) (fun k => iblk m c 7 t (ix2 0 k))) (fun k => iblk m c 11 t (ix3 hd k l)) l = _
  simp only [ckv m c t h33, gk m c t, wv m c t]
  rfl

end Cert.Lanes
-- ==== Proof.lean ====
module

public import proofs.«01_k».proof.Defs
public import proofs.«01_k».proof.Proof.Gen.Attn.Frame
public import proofs.«01_k».proof.Proof.Gen.AttnIdeal.Value
public import proofs.«01_k».proof.Proof.Gen.AttnRefIdeal.Run
public import proofs.«01_k».proof.Proof.Gen.Pre_finite_and_ones
public import proofs.«01_k».proof.Proof.AttnEq
public import proofs.«01_k».proof.Proof.Gen.InProj.Frame
public import proofs.«01_k».proof.Proof.Gen.InProjIdeal.Value
public import proofs.«01_k».proof.Proof.Gen.InProjRefIdeal.Run
public import proofs.«01_k».proof.Proof.ProjEq
public import proofs.«01_k».proof.Proof.Gen.MixPost.Frame
public import proofs.«01_k».proof.Proof.Gen.MixPostIdeal.Value
public import proofs.«01_k».proof.Proof.Gen.MixPostRefIdeal.Run
public import proofs.«01_k».proof.Proof.MixEq
public import proofs.«01_k».proof.Proof.Gen.FinalNorm.Frame
public import proofs.«01_k».proof.Proof.Gen.FinalNormIdeal.Value
public import proofs.«01_k».proof.Proof.Gen.FinalNormRefIdeal.Run
public import proofs.«01_k».proof.Proof.NormRead
public import proofs.«01_k».proof.Proof.Gen.Prep.Frame
public import proofs.«01_k».proof.Proof.Gen.PrepIdeal.Value
public import proofs.«01_k».proof.Proof.Gen.PrepRefIdeal.Run
public import proofs.«01_k».proof.Proof.Gen.Pre_packed_rope
public import proofs.«01_k».proof.Proof.PrepEq
public import Idealize.ShloMosaic.Adequacy
public import Idealize.ShloMosaic.Init
public import Idealize.ShloMosaic.Lib.Quiescent

@[expose] public section

noncomputable section

namespace Cert.Proof

open Idealize.ShloMosaic Idealize.SL.Sem

/-- The attention reference ends, changes no argument, and leaves every counter at zero. -/
theorem attnRef_frame : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- For finite scores and a lane of ones in the values, the attention kernel and its reference end with the same array. -/
theorem attn_equal : Cert.algebraic_AttnIdeal_AttnRefIdeal_pre_finite_and_ones := by
  intro m ρ m' ρ' hpre hagree
  refine ⟨_, Cert.AttnIdeal.Value.run (F := Ideal) m ρ, ?_⟩
  refine (θ_run Cert.AttnRefIdeal.defs _ _).mono (fun _ h c => ⟨?_, (h c).2⟩) (Cert.AttnRefIdeal.Value.run (F := Ideal) m' ρ')
  rw [(h c).1]; simp only [hagree c]
  exact Cert.AttnIdeal.Head.equal m hpre c

/-- The projection's reference ends, changes no argument, and leaves every counter at zero. -/
theorem projRef_frame : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The projection kernel and its reference end with the same array. -/
theorem proj_equal : Cert.algebraic_InProjIdeal_InProjRefIdeal := by
  intro m ρ m' ρ' hpre hagree
  refine ⟨_, (θ_run Cert.InProjIdeal.defs _ _).mono (fun _ h c => ⟨(h c).1, (h c).2⟩) (Cert.InProjIdeal.Value.run_blocks (F := Ideal) m ρ), ?_⟩
  refine (θ_run Cert.InProjRefIdeal.defs _ _).mono (fun _ h c => ⟨?_, (h c).2⟩) (Cert.InProjRefIdeal.Value.run (F := Ideal) m' ρ')
  refine (h c).1.trans ?_
  refine Eq.trans ?_ (Cert.Proj.equal m c).symm
  show Cert.Proj.ref m' c = _
  unfold Cert.Proj.ref
  simp only [hagree c]

/-- The mixing's reference ends, changes no argument, and leaves every counter at zero. -/
theorem mixRef_frame : Cert.quiescent_MixPostRefIdeal := fun m ρ _ =>
  (θ_run Cert.MixPostRefIdeal.defs _ _).mono (fun r h => ⟨fun c => (h c).2, sem_eq_zero_of_no_sems (by decide) r.2⟩)
    (Cert.MixPostRefIdeal.Value.run (F := Ideal) m ρ)

/-- The mixing kernel and its reference end with the same array. -/
theorem mix_equal : Cert.algebraic_MixPostIdeal_MixPostRefIdeal := by
  intro m ρ m' ρ' hpre hagree
  refine ⟨_, (θ_run Cert.MixPostIdeal.defs _ _).mono (fun _ h c => ⟨(h c).1, (h c).2⟩) (Cert.MixPostIdeal.Value.run_blocks (F := Ideal) m ρ), ?_⟩
  refine (θ_run Cert.MixPostRefIdeal.defs _ _).mono (fun _ h c => ⟨?_, (h c).2⟩) (Cert.MixPostRefIdeal.Value.run (F := Ideal) m' ρ')
  refine (h c).1.trans ?_
  refine Eq.trans ?_ (Cert.Mix.equal m c).symm
  refine (Cert.Mix.ref_eq m' c).trans ?_
  unfold Cert.Mix.ref
  simp only [hagree c]

/-- The final norm's reference ends, changes no argument, and leaves every counter at zero. -/
theorem normRef_frame : Cert.quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

/-- The final norm's kernel and its reference end with the same array. -/
theorem norm_equal : Cert.algebraic_FinalNormIdeal_FinalNormRefIdeal := by
  intro m ρ m' ρ' hpre hagree
  refine ⟨_, (θ_run Cert.FinalNormIdeal.defs _ _).mono (fun _ h c => ⟨(h c).1, (h c).2⟩) (Cert.FinalNormIdeal.Value.run_blocks (F := Ideal) m ρ), ?_⟩
  refine (θ_run Cert.FinalNormRefIdeal.defs _ _).mono (fun _ h c => ⟨?_, (h c).2⟩) (Cert.FinalNormRefIdeal.Value.run (F := Ideal) m' ρ')
  rw [(h c).1]; simp only [hagree c]
  exact (Cert.Norm.equal m c).symm

/-- The reference of the queries, keys and values ends, changes no argument, and leaves every counter at zero. -/
theorem prepRef_frame : Cert.quiescent_PrepRefIdeal := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

/-- The kernel of the queries, keys and values and its reference end with the same three arrays. -/
theorem prep_equal : Cert.algebraic_PrepIdeal_PrepRefIdeal_pre_packed_rope := by
  intro m ρ m' ρ' hpre hagree
  refine ⟨_, _, _, (θ_run Cert.PrepIdeal.defs _ _).mono (fun _ h c => h c) (Cert.PrepIdeal.Value.run_blocks (F := Ideal) m ρ), ?_⟩
  refine (θ_run Cert.PrepRefIdeal.defs _ _).mono (fun _ h c => ⟨?_, ?_, ?_, (h c).2.2.2⟩) (Cert.PrepRefIdeal.Value.run (F := Ideal) m' ρ')
  · refine (h c).1.trans ?_
    refine Eq.trans ?_ (Cert.Lanes.equalQ m hpre c).symm
    refine (Cert.Lanes.refQ_eq m' c).trans ?_
    unfold Cert.Lanes.refQ Cert.Lanes.A0
    simp only [hagree c]
  · refine (h c).2.1.trans ?_
    refine Eq.trans ?_ (Cert.Lanes.equalK m hpre c).symm
    refine (Cert.Lanes.refK_eq m' c).trans ?_
    unfold Cert.Lanes.refK Cert.Lanes.A0
    simp only [hagree c]
  · refine (h c).2.2.1.trans ?_
    refine Eq.trans ?_ (Cert.Lanes.equalV m c).symm
    show Cert.Lanes.refV m' c = _
    unfold Cert.Lanes.refV Cert.Lanes.A0
    simp only [hagree c]

theorem claim : Cert.Claim :=
  ⟨Cert.Attn.Gen.facts, Cert.AttnIdeal.Gen.facts, Cert.AttnRefIdeal.Gen.facts,
   Cert.InProj.Gen.facts, Cert.InProjIdeal.Gen.facts, Cert.InProjRefIdeal.Gen.facts,
   Cert.MixPost.Gen.facts, Cert.MixPostIdeal.Gen.facts, Cert.MixPostRefIdeal.Gen.facts,
   Cert.FinalNorm.Gen.facts, Cert.FinalNormIdeal.Gen.facts, Cert.FinalNormRefIdeal.Gen.facts,
   Cert.Prep.Gen.facts, Cert.PrepIdeal.Gen.facts, Cert.PrepRefIdeal.Gen.facts,
   Cert.Pre_finite_and_ones.Gen.facts, Cert.Pre_packed_rope.Gen.facts,
   fun m ρ _ => Cert.Attn.Gen.frame m ρ,
   fun m ρ _ => Cert.AttnIdeal.Gen.frame m ρ,
   fun m ρ _ => Cert.AttnIdeal.Gen.frame m ρ,
   attnRef_frame,
   fun m ρ _ => attnRef_frame m ρ trivial,
   fun m ρ _ => Cert.InProj.Gen.frame m ρ,
   fun m ρ _ => Cert.InProjIdeal.Gen.frame m ρ,
   projRef_frame,
   fun m ρ _ => Cert.MixPost.Gen.frame m ρ,
   fun m ρ _ => Cert.MixPostIdeal.Gen.frame m ρ,
   mixRef_frame,
   fun m ρ _ => Cert.FinalNorm.Gen.frame m ρ,
   fun m ρ _ => Cert.FinalNormIdeal.Gen.frame m ρ,
   normRef_frame,
   fun m ρ _ => Cert.Prep.Gen.frame m ρ,
   fun m ρ _ => Cert.PrepIdeal.Gen.frame m ρ,
   fun m ρ _ => Cert.PrepIdeal.Gen.frame m ρ,
   prepRef_frame,
   fun m ρ _ => prepRef_frame m ρ trivial,
   trivial,
   attn_equal,
   trivial,
   proj_equal,
   trivial,
   mix_equal,
   trivial,
   norm_equal,
   trivial,
   prep_equal⟩

end Cert.Proof

end
